-- ==== Defs.lean ====
def Pre_Kernel [hPre_groups_exist : Cert.Pre_groups_exist.Facts] (m : (ℓ : Loc Cert.Kernel.nD Cert.Kernel.τ Cert.Kernel.sig) → Buf (Elt Bits) ℓ) : Prop :=
  ∀ c : Dev Cert.Kernel.nD,
    (Cert.Pre_groups_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_groups_exist : Cert.Pre_groups_exist.Facts] (m : (ℓ : Loc Cert.KernelIdeal.nD Cert.KernelIdeal.τ Cert.KernelIdeal.sig) → Buf (Elt Ideal) ℓ) : Prop :=
  ∀ c : Dev Cert.KernelIdeal.nD,
    (Cert.Pre_groups_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_exist [hPre_groups_exist : Cert.Pre_groups_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_groups_exist : Cert.Pre_groups_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_groups_exist : Cert.Pre_groups_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_groups_exist [hReferenceIdeal : Cert.ReferenceIdeal.Facts] [hPre_groups_exist : Cert.Pre_groups_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.bf16_pair.BufferStatement Cert.KernelIdeal.S384x2x128 Cert.KernelIdeal.S384x1x128
  ∧ IdealRules.bf16_pair.BufferStatement Cert.KernelIdeal.S768x2x128 Cert.KernelIdeal.S768x1x128
  ∧ IdealRules.bf16_pair.HalfStatement Cert.KernelIdeal.S48x128
  ∧ IdealRules.bf16_pair.Statement Cert.KernelIdeal.S48x2x128 Cert.KernelIdeal.S48x1x128
  ∧ IdealRules.bf16_pair.Statement Cert.KernelIdeal.S8x2x128 Cert.KernelIdeal.S8x1x128
  ∧ IdealRules.bf16_pair.Statement Cert.KernelIdeal.S16x128 Cert.KernelIdeal.S8x128

def algebraic_KernelIdeal_ReferenceIdeal [hKernelIdeal : Cert.KernelIdeal.Facts] [hReferenceIdeal : Cert.ReferenceIdeal.Facts] [hPre_groups_exist : Cert.Pre_groups_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_groups_exist : Cert.Pre_groups_exist.Facts),
    quiescent_Kernel (hKernel := hKernel) (hPre_groups_exist := hPre_groups_exist)
    ∧ quiescent_KernelIdeal (hKernelIdeal := hKernelIdeal) (hPre_groups_exist := hPre_groups_exist)
    ∧ quiescent_ReferenceIdeal (hReferenceIdeal := hReferenceIdeal)
    ∧ quiescent_ReferenceIdeal_pre_groups_exist (hReferenceIdeal := hReferenceIdeal) (hPre_groups_exist := hPre_groups_exist)
    ∧ preserves_Kernel_KernelIdeal
    ∧ algebraic_KernelIdeal_ReferenceIdeal (hKernelIdeal := hKernelIdeal) (hReferenceIdeal := hReferenceIdeal) (hPre_groups_exist := hPre_groups_exist)
-- ==== Pre_groups_exist.lean ====
abbrev S16384x1x6144 : Shape := ⟨3, ![16384, 1, 6144]⟩
abbrev S3072x10240 : Shape := ⟨2, ![3072, 10240]⟩
abbrev S48x10240 : Shape := ⟨2, ![48, 10240]⟩
abbrev S24x10240 : Shape := ⟨2, ![24, 10240]⟩
abbrev S6144 : Shape := ⟨1, ![6144]⟩
abbrev S_ : Shape := ⟨0, ![]⟩

class Facts : Prop where
  bcast_S_S6144 : S_.BroadcastsInDim S6144 (![] : Fin 0 → Fin S6144.rank)

variable [Facts]

def fn {F : FTy → Type} [FloatOps F] (main_arg0 : FVec F S16384x1x6144 .bf16) (main_arg1 : IVec S3072x10240 8) (main_arg2 : IVec S3072x10240 8) (main_arg3 : FVec F S48x10240 .bf16) (main_arg4 : FVec F S48x10240 .bf16) (main_arg5 : IVec S24x10240 8) (main_arg6 : IVec S24x10240 8) (main_arg7 : IVec S6144 32) : IVec S6144 1 :=
  let main_c : IVec S_ 32 := constantI S_ 32 0#32
  let main_v0 : IVec S6144 32 := broadcastInDim S6144 ![] bcast_S_S6144 main_c
  let main_v1 : IVec S6144 1 := cmpi .sge main_arg7 main_v0
  let main_c_0 : IVec S_ 32 := constantI S_ 32 48#32
  let main_v2 : IVec S6144 32 := broadcastInDim S6144 ![] bcast_S_S6144 main_c_0
  let main_v3 : IVec S6144 1 := cmpi .slt main_arg7 main_v2
  let main_v4 : IVec S6144 1 := andi main_v1 main_v3
  main_v4
-- ==== Kernel.lean ====
abbrev S16384x1x6144 : Shape := ⟨3, ![16384, 1, 6144]⟩
abbrev S3072x10240 : Shape := ⟨2, ![3072, 10240]⟩
abbrev S48x10240 : Shape := ⟨2, ![48, 10240]⟩
abbrev S24x10240 : Shape := ⟨2, ![24, 10240]⟩
abbrev S6144 : Shape := ⟨1, ![6144]⟩
abbrev S16384x6144 : Shape := ⟨2, ![16384, 6144]⟩
abbrev S16384x10240 : Shape := ⟨2, ![16384, 10240]⟩
abbrev S512x6144 : Shape := ⟨2, ![512, 6144]⟩
abbrev S3072x512 : Shape := ⟨2, ![3072, 512]⟩
abbrev S48x512 : Shape := ⟨2, ![48, 512]⟩
abbrev S24x512 : Shape := ⟨2, ![24, 512]⟩
abbrev S512x512 : Shape := ⟨2, ![512, 512]⟩
abbrev S6144x1024 : Shape := ⟨2, ![6144, 1024]⟩
abbrev S384x128 : Shape := ⟨2, ![384, 128]⟩
abbrev S768x128 : Shape := ⟨2, ![768, 128]⟩
abbrev S48x128 : Shape := ⟨2, ![48, 128]⟩
abbrev S24x128 : Shape := ⟨2, ![24, 128]⟩
abbrev S1 : Shape := ⟨1, ![1]⟩
abbrev S8x128 : Shape := ⟨2, ![8, 128]⟩
abbrev S16x128 : Shape := ⟨2, ![16, 128]⟩
abbrev S32x128 : Shape := ⟨2, ![32, 128]⟩
abbrev S512x1024 : Shape := ⟨2, ![512, 1024]⟩

abbrev nBuf : Space → Nat
  | .hbm => 9
  | .vmem => 23
  | .smem => 1
  | _ => 0

abbrev bufTy : (tb : Table) → Fin (tcTables nBuf tb) → BufTy
  | .hbm, ⟨0, _⟩ => ⟨S16384x1x6144, .bf16⟩
  | .hbm, ⟨1, _⟩ => ⟨S3072x10240, .i8⟩
  | .hbm, ⟨2, _⟩ => ⟨S3072x10240, .i8⟩
  | .hbm, ⟨3, _⟩ => ⟨S48x10240, .bf16⟩
  | .hbm, ⟨4, _⟩ => ⟨S48x10240, .bf16⟩
  | .hbm, ⟨5, _⟩ => ⟨S24x10240, .i8⟩
  | .hbm, ⟨6, _⟩ => ⟨S24x10240, .i8⟩
  | .hbm, ⟨7, _⟩ => ⟨S16384x6144, .bf16⟩
  | .hbm, ⟨8, _⟩ => ⟨S16384x10240, .bf16⟩
  | .local _ .vmem, ⟨0, _⟩ => ⟨S512x6144, .bf16⟩
  | .local _ .vmem, ⟨1, _⟩ => ⟨S512x6144, .bf16⟩
  | .local _ .vmem, ⟨2, _⟩ => ⟨S3072x512, .i8⟩
  | .local _ .vmem, ⟨3, _⟩ => ⟨S3072x512, .i8⟩
  | .local _ .vmem, ⟨4, _⟩ => ⟨S3072x512, .i8⟩
  | .local _ .vmem, ⟨5, _⟩ => ⟨S3072x512, .i8⟩
  | .local _ .vmem, ⟨6, _⟩ => ⟨S48x512, .bf16⟩
  | .local _ .vmem, ⟨7, _⟩ => ⟨S48x512, .bf16⟩
  | .local _ .vmem, ⟨8, _⟩ => ⟨S48x512, .bf16⟩
  | .local _ .vmem, ⟨9, _⟩ => ⟨S48x512, .bf16⟩
  | .local _ .vmem, ⟨10, _⟩ => ⟨S24x512, .i8⟩
  | .local _ .vmem, ⟨11, _⟩ => ⟨S24x512, .i8⟩
  | .local _ .vmem, ⟨12, _⟩ => ⟨S24x512, .i8⟩
  | .local _ .vmem, ⟨13, _⟩ => ⟨S24x512, .i8⟩
  | .local _ .vmem, ⟨14, _⟩ => ⟨S512x512, .bf16⟩
  | .local _ .vmem, ⟨15, _⟩ => ⟨S512x512, .bf16⟩
  | .local _ .vmem, ⟨16, _⟩ => ⟨S6144x1024, .bf16⟩
  | .local _ .vmem, ⟨17, _⟩ => ⟨S384x128, .i32⟩
  | .local _ .vmem, ⟨18, _⟩ => ⟨S384x128, .i32⟩
  | .local _ .vmem, ⟨19, _⟩ => ⟨S384x128, .i32⟩
  | .local _ .vmem, ⟨20, _⟩ => ⟨S384x128, .i32⟩
  | .local _ .vmem, ⟨21, _⟩ => ⟨S768x128, .i32⟩
  | .local _ .vmem, ⟨22, _⟩ => ⟨S768x128, .i32⟩
  | .local _ .smem, ⟨0, _⟩ => ⟨S6144, .i32⟩
  | _, _ => ⟨S16384x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [BitOps F]

abbrev grid0 : Pipeline.Grid := ⟨2, ![20, 32], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_184 : BitVec 32 := 0#32
  let c32_i32 : BitVec 32 := 32#32
  let v366 : BitVec 32 := Scalar.addi c0_i32_184 c32_i32
  let c1_i32 : BitVec 32 := 1#32
  ⟨c0_i32_184, v366, c1_i32⟩
def k0_mult1 (k0_t1 : Fin k0_t1_loop.trips) : BitVec 32 :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  v369
@[reducible] def k0_t2_loop : Scf.Loop 32 :=
  let c0_i32_188 : BitVec 32 := 0#32
  let c96_i32_189 : BitVec 32 := 96#32
  let v371 : BitVec 32 := Scalar.addi c0_i32_188 c96_i32_189
  let c1_i32_190 : BitVec 32 := 1#32
  ⟨c0_i32_188, v371, c1_i32_190⟩
def k0_off1 (k0_t1 : Fin k0_t1_loop.trips) (k0_t2 : Fin k0_t2_loop.trips) : Fin 1 → Nat :=
  let c2_i32 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_188 : BitVec 32 := 0#32
  let c1_i32_190 : BitVec 32 := 1#32
  let arg19 : BitVec 32 := Scf.iv c0_i32_188 c1_i32_190 k0_t2
  let c1_i32_195 : BitVec 32 := 1#32
  let v373 : BitVec 32 := Scalar.muli arg19 c1_i32_195
  let v374 : BitVec 32 := Scalar.addi c0_i32_196 v373
  let v375 : BitVec 32 := Scalar.addi v370 v374
  let v376 : BitVec 32 := Scalar.muli c2_i32 v375
  let v377 : Index := Scalar.indexCast v376
  ![v377.toNat]
def k0_mult2 (v378 : BitVec 32) : BitVec 32 :=
  let c8_i32 : BitVec 32 := 8#32
  let v379 : BitVec 32 := Scalar.muli v378 c8_i32
  v379

def k0_off2 (k0_t1 : Fin k0_t1_loop.trips) (k0_t2 : Fin k0_t2_loop.trips) : Fin 1 → Nat :=
  let c2_i32_197 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_188 : BitVec 32 := 0#32
  let c1_i32_190 : BitVec 32 := 1#32
  let arg19 : BitVec 32 := Scf.iv c0_i32_188 c1_i32_190 k0_t2
  let c1_i32_195 : BitVec 32 := 1#32
  let v373 : BitVec 32 := Scalar.muli arg19 c1_i32_195
  let v374 : BitVec 32 := Scalar.addi c0_i32_196 v373
  let v381 : BitVec 32 := Scalar.addi v370 v374
  let v382 : BitVec 32 := Scalar.muli c2_i32_197 v381
  let c1_i32_198 : BitVec 32 := 1#32
  let v383 : BitVec 32 := Scalar.addi v382 c1_i32_198
  let v384 : Index := Scalar.indexCast v383
  ![v384.toNat]
def k0_mult3 (v385 : BitVec 32) : BitVec 32 :=
  let c8_i32_199 : BitVec 32 := 8#32
  let v386 : BitVec 32 := Scalar.muli v385 c8_i32_199
  v386

def k0_off3 (v378 : BitVec 32) : Fin 2 → Nat :=
  let c8_i32 : BitVec 32 := 8#32
  let v379 : BitVec 32 := Scalar.muli v378 c8_i32
  let v380 : BitVec 32 := v379
  let v418 : Index := Scalar.indexCast v380
  let c0_215 : Index := 0#32
  ![v418.toNat, 0]

def k0_chk1 (i : grid0.Coords) (v378 : BitVec 32) : Prop :=
  (∀ (k0_h1 : k0_cond1 i = 1#1), 8 ∣ (k0_mult2 v378).toNat) ∧
  (∀ (k0_h1 : k0_cond1 i = 1#1), ∀ a, (k0_off3 v378) a + S8x128.size a ≤ S384x128.size a)
theorem k0_mult2_dvd : ∀ (i : grid0.Coords) (v378 : BitVec 32) (k0_hw1 : k0_chk1 i v378), ∀ (k0_h1 : k0_cond1 i = 1#1), 8 ∣ (k0_mult2 v378).toNat := fun i v378 k0_hw1 k0_h1 => k0_hw1.1 k0_h1
theorem k0_off3_inb : ∀ (i : grid0.Coords) (v378 : BitVec 32) (k0_hw1 : k0_chk1 i v378), ∀ (k0_h1 : k0_cond1 i = 1#1), ∀ a, (k0_off3 v378) a + S8x128.size a ≤ S384x128.size a := fun i v378 k0_hw1 k0_h1 => k0_hw1.2 k0_h1

def k0_off4 (v385 : BitVec 32) : Fin 2 → Nat :=
  let c8_i32_199 : BitVec 32 := 8#32
  let v386 : BitVec 32 := Scalar.muli v385 c8_i32_199
  let v387 : BitVec 32 := v386
  let v422 : Index := Scalar.indexCast v387
  let c0_216 : Index := 0#32
  ![v422.toNat, 0]

def k0_chk2 (i : grid0.Coords) (v385 : BitVec 32) : Prop :=
  (∀ (k0_h1 : k0_cond1 i = 1#1), 8 ∣ (k0_mult3 v385).toNat) ∧
  (∀ (k0_h1 : k0_cond1 i = 1#1), ∀ a, (k0_off4 v385) a + S8x128.size a ≤ S384x128.size a)
theorem k0_mult3_dvd : ∀ (i : grid0.Coords) (v385 : BitVec 32) (k0_hw2 : k0_chk2 i v385), ∀ (k0_h1 : k0_cond1 i = 1#1), 8 ∣ (k0_mult3 v385).toNat := fun i v385 k0_hw2 k0_h1 => k0_hw2.1 k0_h1
theorem k0_off4_inb : ∀ (i : grid0.Coords) (v385 : BitVec 32) (k0_hw2 : k0_chk2 i v385), ∀ (k0_h1 : k0_cond1 i = 1#1), ∀ a, (k0_off4 v385) a + S8x128.size a ≤ S384x128.size a := fun i v385 k0_hw2 k0_h1 => k0_hw2.2 k0_h1

def k0_off5 (k0_t2 : Fin k0_t2_loop.trips) : Fin 2 → Nat :=
  let c0_i32_196 : BitVec 32 := 0#32
  let c0_i32_188 : BitVec 32 := 0#32
  let c1_i32_190 : BitVec 32 := 1#32
  let arg19 : BitVec 32 := Scf.iv c0_i32_188 c1_i32_190 k0_t2
  let c1_i32_195 : BitVec 32 := 1#32
  let v373 : BitVec 32 := Scalar.muli arg19 c1_i32_195
  let v374 : BitVec 32 := Scalar.addi c0_i32_196 v373
  let c0_i32_201 : BitVec 32 := 0#32
  let v389 : BitVec 1 := Scalar.cmpi .sgt v374 c0_i32_201
  let v390 : BitVec 32 := Scalar.extui v389
  let c0_i32_202 : BitVec 32 := 0#32
  let v391 : BitVec 1 := Scalar.cmpi .slt v374 c0_i32_202
  let v392 : BitVec 32 := Scalar.extui v391
  let v393 : BitVec 32 := Scalar.subi v390 v392
  let c8_i32_200 : BitVec 32 := 8#32
  let c0_i32_203 : BitVec 32 := 0#32
  let v394 : BitVec 1 := Scalar.cmpi .sgt c8_i32_200 c0_i32_203
  let v395 : BitVec 32 := Scalar.extui v394
  let c0_i32_204 : BitVec 32 := 0#32
  let v396 : BitVec 1 := Scalar.cmpi .slt c8_i32_200 c0_i32_204
  let v397 : BitVec 32 := Scalar.extui v396
  let v398 : BitVec 32 := Scalar.subi v395 v397
  let v399 : BitVec 1 := Scalar.cmpi .ne v393 v398
  let v400 : BitVec 32 := Scalar.remsi v374 c8_i32_200
  let c0_i32_205 : BitVec 32 := 0#32
  let v401 : BitVec 1 := Scalar.cmpi .ne v400 c0_i32_205
  let v402 : BitVec 1 := Scalar.andi v399 v401
  let v388 : BitVec 32 := Scalar.divsi v374 c8_i32_200
  let c1_i32_206 : BitVec 32 := 1#32
  let v403 : BitVec 32 := Scalar.subi v388 c1_i32_206
  let v404 : BitVec 32 := Scalar.select v402 v403 v388
  let c8_i32_207 : BitVec 32 := 8#32
  let v405 : BitVec 32 := Scalar.muli v404 c8_i32_207
  let c8_i32_208 : BitVec 32 := 8#32
  let v406 : BitVec 32 := Scalar.muli v405 c8_i32_208
  let c8_i32_209 : BitVec 32 := 8#32
  let c0_i32_210 : BitVec 32 := 0#32
  let v407 : BitVec 1 := Scalar.cmpi .eq c8_i32_209 c0_i32_210
  let c1_i32_211 : BitVec 32 := 1#32
  let v408 : BitVec 32 := Scalar.select v407 c1_i32_211 c8_i32_209
  let v409 : BitVec 32 := Scalar.remsi v374 v408
  let c0_i32_213 : BitVec 32 := 0#32
  let v411 : BitVec 1 := Scalar.cmpi .slt v409 c0_i32_213
  let c0_i32_214 : BitVec 32 := 0#32
  let v412 : BitVec 1 := Scalar.cmpi .slt v408 c0_i32_214
  let v413 : BitVec 1 := Scalar.xori v411 v412
  let c0_i32_212 : BitVec 32 := 0#32
  let v410 : BitVec 1 := Scalar.cmpi .ne v409 c0_i32_212
  let v414 : BitVec 1 := Scalar.andi v413 v410
  let v415 : BitVec 32 := Scalar.addi v409 v408
  let v416 : BitVec 32 := Scalar.select v414 v415 v409
  let v417 : BitVec 32 := Scalar.addi v406 v416
  let v431 : Index := Scalar.indexCast v417
  let c0_217 : Index := 0#32
  ![v431.toNat, 0]
@[reducible] def k0_t3_loop : Scf.Loop 32 :=
  let c0_i32_192 : BitVec 32 := 0#32
  let c3_i32 : BitVec 32 := 3#32
  let v372 : BitVec 32 := Scalar.addi c0_i32_192 c3_i32
  let c1_i32_193 : BitVec 32 := 1#32
  ⟨c0_i32_192, v372, c1_i32_193⟩
def k0_mult4 (k0_t3 : Fin k0_t3_loop.trips) : BitVec 32 :=
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  v375
def k0_off6 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v377 : BitVec 32 := Scalar.addi v370 v376
  let v378 : Index := Scalar.indexCast v377
  let c0_198 : Index := 0#32
  ![v378.toNat, 0]
def k0_off7 (k0_t3 : Fin k0_t3_loop.trips) (c0_i32_205 : BitVec 32) (c0_i32_207 : BitVec 32) : Fin 2 → Nat :=
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let c0_i32_199 : BitVec 32 := 0#32
  let v389 : BitVec 1 := Scalar.cmpi .sgt v376 c0_i32_199
  let v390 : BitVec 32 := Scalar.extui v389
  let c0_i32_200 : BitVec 32 := 0#32
  let v391 : BitVec 1 := Scalar.cmpi .slt v376 c0_i32_200
  let v392 : BitVec 32 := Scalar.extui v391
  let v393 : BitVec 32 := Scalar.subi v390 v392
  let c8_i32 : BitVec 32 := 8#32
  let c0_i32_201 : BitVec 32 := 0#32
  let v394 : BitVec 1 := Scalar.cmpi .sgt c8_i32 c0_i32_201
  let v395 : BitVec 32 := Scalar.extui v394
  let c0_i32_202 : BitVec 32 := 0#32
  let v396 : BitVec 1 := Scalar.cmpi .slt c8_i32 c0_i32_202
  let v397 : BitVec 32 := Scalar.extui v396
  let v398 : BitVec 32 := Scalar.subi v395 v397
  let v399 : BitVec 1 := Scalar.cmpi .ne v393 v398
  let v400 : BitVec 32 := Scalar.remsi v376 c8_i32
  let c0_i32_203 : BitVec 32 := 0#32
  let v401 : BitVec 1 := Scalar.cmpi .ne v400 c0_i32_203
  let v402 : BitVec 1 := Scalar.andi v399 v401
  let v388 : BitVec 32 := Scalar.divsi v376 c8_i32
  let c1_i32_204 : BitVec 32 := 1#32
  let v403 : BitVec 32 := Scalar.subi v388 c1_i32_204
  let v404 : BitVec 32 := Scalar.select v402 v403 v388
  let v405 : BitVec 32 := Scalar.addi v404 c0_i32_205
  let c8_i32_206 : BitVec 32 := 8#32
  let v406 : BitVec 32 := Scalar.muli v405 c8_i32_206
  let v407 : BitVec 32 := Scalar.addi v406 c0_i32_207
  let c8_i32_208 : BitVec 32 := 8#32
  let v408 : BitVec 32 := Scalar.muli v407 c8_i32_208
  let v411 : Index := Scalar.indexCast v408
  let c0_209 : Index := 0#32
  ![v411.toNat, 0]
def k0_off8 (k0_t1 : Fin k0_t1_loop.trips) (k0_t3 : Fin k0_t3_loop.trips) (c0_i32_211 : BitVec 32) : Fin 2 → Nat :=
  let c2_i32 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v419 : BitVec 32 := Scalar.addi v370 v376
  let v420 : BitVec 32 := Scalar.muli c2_i32 v419
  let v421 : BitVec 32 := Scalar.addi v420 c0_i32_211
  let v422 : Index := Scalar.indexCast v421
  let c0_212 : Index := 0#32
  ![v422.toNat, 0]
def k0_off9 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v540 : BitVec 32 := Scalar.addi v370 v376
  let v541 : Index := Scalar.indexCast v540
  let c128_260 : Index := 128#32
  ![v541.toNat, 128]
def k0_off10 (k0_t1 : Fin k0_t1_loop.trips) (k0_t3 : Fin k0_t3_loop.trips) (c0_i32_278 : BitVec 32) : Fin 2 → Nat :=
  let c2_i32_277 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v582 : BitVec 32 := Scalar.addi v370 v376
  let v583 : BitVec 32 := Scalar.muli c2_i32_277 v582
  let v584 : BitVec 32 := Scalar.addi v583 c0_i32_278
  let v585 : Index := Scalar.indexCast v584
  let c128_279 : Index := 128#32
  ![v585.toNat, 128]
def k0_off11 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v703 : BitVec 32 := Scalar.addi v370 v376
  let v704 : Index := Scalar.indexCast v703
  let c256_328 : Index := 256#32
  ![v704.toNat, 256]
def k0_off12 (k0_t1 : Fin k0_t1_loop.trips) (k0_t3 : Fin k0_t3_loop.trips) (c0_i32_346 : BitVec 32) : Fin 2 → Nat :=
  let c2_i32_345 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v745 : BitVec 32 := Scalar.addi v370 v376
  let v746 : BitVec 32 := Scalar.muli c2_i32_345 v745
  let v747 : BitVec 32 := Scalar.addi v746 c0_i32_346
  let v748 : Index := Scalar.indexCast v747
  let c256_347 : Index := 256#32
  ![v748.toNat, 256]
def k0_off13 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v866 : BitVec 32 := Scalar.addi v370 v376
  let v867 : Index := Scalar.indexCast v866
  let c384_396 : Index := 384#32
  ![v867.toNat, 384]
def k0_off14 (k0_t1 : Fin k0_t1_loop.trips) (k0_t3 : Fin k0_t3_loop.trips) (c0_i32_414 : BitVec 32) : Fin 2 → Nat :=
  let c2_i32_413 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v908 : BitVec 32 := Scalar.addi v370 v376
  let v909 : BitVec 32 := Scalar.muli c2_i32_413 v908
  let v910 : BitVec 32 := Scalar.addi v909 c0_i32_414
  let v911 : Index := Scalar.indexCast v910
  let c384_415 : Index := 384#32
  ![v911.toNat, 384]
def k0_off15 (k0_t1 : Fin k0_t1_loop.trips) (k0_t3 : Fin k0_t3_loop.trips) (c0_i32_482 : BitVec 32) : Fin 2 → Nat :=
  let c2_i32_481 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1071 : BitVec 32 := Scalar.addi v370 v376
  let v1072 : BitVec 32 := Scalar.muli c2_i32_481 v1071
  let v1073 : BitVec 32 := Scalar.addi v1072 c0_i32_482
  let v1074 : Index := Scalar.indexCast v1073
  let c512 : Index := 512#32
  ![v1074.toNat, 512]
def k0_off16 (k0_t1 : Fin k0_t1_loop.trips) (k0_t3 : Fin k0_t3_loop.trips) (c0_i32_548 : BitVec 32) : Fin 2 → Nat :=
  let c2_i32_547 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1234 : BitVec 32 := Scalar.addi v370 v376
  let v1235 : BitVec 32 := Scalar.muli c2_i32_547 v1234
  let v1236 : BitVec 32 := Scalar.addi v1235 c0_i32_548
  let v1237 : Index := Scalar.indexCast v1236
  let c640 : Index := 640#32
  ![v1237.toNat, 640]
def k0_off17 (k0_t1 : Fin k0_t1_loop.trips) (k0_t3 : Fin k0_t3_loop.trips) (c0_i32_614 : BitVec 32) : Fin 2 → Nat :=
  let c2_i32_613 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1397 : BitVec 32 := Scalar.addi v370 v376
  let v1398 : BitVec 32 := Scalar.muli c2_i32_613 v1397
  let v1399 : BitVec 32 := Scalar.addi v1398 c0_i32_614
  let v1400 : Index := Scalar.indexCast v1399
  let c768 : Index := 768#32
  ![v1400.toNat, 768]
def k0_off18 (k0_t1 : Fin k0_t1_loop.trips) (k0_t3 : Fin k0_t3_loop.trips) (c0_i32_680 : BitVec 32) : Fin 2 → Nat :=
  let c2_i32_679 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1560 : BitVec 32 := Scalar.addi v370 v376
  let v1561 : BitVec 32 := Scalar.muli c2_i32_679 v1560
  let v1562 : BitVec 32 := Scalar.addi v1561 c0_i32_680
  let v1563 : Index := Scalar.indexCast v1562
  let c896 : Index := 896#32
  ![v1563.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S48x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S48x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S24x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S24x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
abbrev S16384x1x6144 : Shape := ⟨3, ![16384, 1, 6144]⟩
abbrev S3072x10240 : Shape := ⟨2, ![3072, 10240]⟩
abbrev S48x10240 : Shape := ⟨2, ![48, 10240]⟩
abbrev S24x10240 : Shape := ⟨2, ![24, 10240]⟩
abbrev S6144 : Shape := ⟨1, ![6144]⟩
abbrev S16384x6144 : Shape := ⟨2, ![16384, 6144]⟩
abbrev S16384x10240 : Shape := ⟨2, ![16384, 10240]⟩
abbrev S512x6144 : Shape := ⟨2, ![512, 6144]⟩
abbrev S3072x512 : Shape := ⟨2, ![3072, 512]⟩
abbrev S48x512 : Shape := ⟨2, ![48, 512]⟩
abbrev S24x512 : Shape := ⟨2, ![24, 512]⟩
abbrev S512x512 : Shape := ⟨2, ![512, 512]⟩
abbrev S6144x1024 : Shape := ⟨2, ![6144, 1024]⟩
abbrev S384x128 : Shape := ⟨2, ![384, 128]⟩
abbrev S384x2x128 : Shape := ⟨3, ![384, 2, 128]⟩
abbrev S384x1x128 : Shape := ⟨3, ![384, 1, 128]⟩
abbrev S768x128 : Shape := ⟨2, ![768, 128]⟩
abbrev S768x2x128 : Shape := ⟨3, ![768, 2, 128]⟩
abbrev S768x1x128 : Shape := ⟨3, ![768, 1, 128]⟩
abbrev S48x128 : Shape := ⟨2, ![48, 128]⟩
abbrev S48x2x128 : Shape := ⟨3, ![48, 2, 128]⟩
abbrev S48x1x128 : Shape := ⟨3, ![48, 1, 128]⟩
abbrev S24x128 : Shape := ⟨2, ![24, 128]⟩
abbrev S1 : Shape := ⟨1, ![1]⟩
abbrev S8x128 : Shape := ⟨2, ![8, 128]⟩
abbrev S8x2x128 : Shape := ⟨3, ![8, 2, 128]⟩
abbrev S8x1x128 : Shape := ⟨3, ![8, 1, 128]⟩
abbrev S16x128 : Shape := ⟨2, ![16, 128]⟩
abbrev S32x128 : Shape := ⟨2, ![32, 128]⟩
abbrev S512x1024 : Shape := ⟨2, ![512, 1024]⟩

abbrev nBuf : Space → Nat
  | .hbm => 9
  | .vmem => 23
  | .smem => 1
  | _ => 0

abbrev bufTy : (tb : Table) → Fin (tcTables nBuf tb) → BufTy
  | .hbm, ⟨0, _⟩ => ⟨S16384x1x6144, .bf16⟩
  | .hbm, ⟨1, _⟩ => ⟨S3072x10240, .i8⟩
  | .hbm, ⟨2, _⟩ => ⟨S3072x10240, .i8⟩
  | .hbm, ⟨3, _⟩ => ⟨S48x10240, .bf16⟩
  | .hbm, ⟨4, _⟩ => ⟨S48x10240, .bf16⟩
  | .hbm, ⟨5, _⟩ => ⟨S24x10240, .i8⟩
  | .hbm, ⟨6, _⟩ => ⟨S24x10240, .i8⟩
  | .hbm, ⟨7, _⟩ => ⟨S16384x6144, .bf16⟩
  | .hbm, ⟨8, _⟩ => ⟨S16384x10240, .bf16⟩
  | .local _ .vmem, ⟨0, _⟩ => ⟨S512x6144, .bf16⟩
  | .local _ .vmem, ⟨1, _⟩ => ⟨S512x6144, .bf16⟩
  | .local _ .vmem, ⟨2, _⟩ => ⟨S3072x512, .i8⟩
  | .local _ .vmem, ⟨3, _⟩ => ⟨S3072x512, .i8⟩
  | .local _ .vmem, ⟨4, _⟩ => ⟨S3072x512, .i8⟩
  | .local _ .vmem, ⟨5, _⟩ => ⟨S3072x512, .i8⟩
  | .local _ .vmem, ⟨6, _⟩ => ⟨S48x512, .bf16⟩
  | .local _ .vmem, ⟨7, _⟩ => ⟨S48x512, .bf16⟩
  | .local _ .vmem, ⟨8, _⟩ => ⟨S48x512, .bf16⟩
  | .local _ .vmem, ⟨9, _⟩ => ⟨S48x512, .bf16⟩
  | .local _ .vmem, ⟨10, _⟩ => ⟨S24x512, .i8⟩
  | .local _ .vmem, ⟨11, _⟩ => ⟨S24x512, .i8⟩
  | .local _ .vmem, ⟨12, _⟩ => ⟨S24x512, .i8⟩
  | .local _ .vmem, ⟨13, _⟩ => ⟨S24x512, .i8⟩
  | .local _ .vmem, ⟨14, _⟩ => ⟨S512x512, .bf16⟩
  | .local _ .vmem, ⟨15, _⟩ => ⟨S512x512, .bf16⟩
  | .local _ .vmem, ⟨16, _⟩ => ⟨S6144x1024, .bf16⟩
  | .local _ .vmem, ⟨17, _⟩ => ⟨S384x2x128, .bf16⟩
  | .local _ .vmem, ⟨18, _⟩ => ⟨S384x2x128, .bf16⟩
  | .local _ .vmem, ⟨19, _⟩ => ⟨S384x128, .i32⟩
  | .local _ .vmem, ⟨20, _⟩ => ⟨S384x128, .i32⟩
  | .local _ .vmem, ⟨21, _⟩ => ⟨S768x2x128, .bf16⟩
  | .local _ .vmem, ⟨22, _⟩ => ⟨S768x128, .i32⟩
  | .local _ .smem, ⟨0, _⟩ => ⟨S6144, .i32⟩
  | _, _ => ⟨S16384x1x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![20, 32], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_184 : BitVec 32 := 0#32
  let c32_i32 : BitVec 32 := 32#32
  let v366 : BitVec 32 := Scalar.addi c0_i32_184 c32_i32
  let c1_i32 : BitVec 32 := 1#32
  ⟨c0_i32_184, v366, c1_i32⟩
def k0_mult1 (k0_t1 : Fin k0_t1_loop.trips) : BitVec 32 :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  v369
@[reducible] def k0_t2_loop : Scf.Loop 32 :=
  let c0_i32_188 : BitVec 32 := 0#32
  let c96_i32_189 : BitVec 32 := 96#32
  let v371 : BitVec 32 := Scalar.addi c0_i32_188 c96_i32_189
  let c1_i32_190 : BitVec 32 := 1#32
  ⟨c0_i32_188, v371, c1_i32_190⟩
def k0_off1 (k0_t1 : Fin k0_t1_loop.trips) (k0_t2 : Fin k0_t2_loop.trips) : Fin 1 → Nat :=
  let c2_i32 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_188 : BitVec 32 := 0#32
  let c1_i32_190 : BitVec 32 := 1#32
  let arg19 : BitVec 32 := Scf.iv c0_i32_188 c1_i32_190 k0_t2
  let c1_i32_195 : BitVec 32 := 1#32
  let v373 : BitVec 32 := Scalar.muli arg19 c1_i32_195
  let v374 : BitVec 32 := Scalar.addi c0_i32_196 v373
  let v375 : BitVec 32 := Scalar.addi v370 v374
  let v376 : BitVec 32 := Scalar.muli c2_i32 v375
  let v377 : Index := Scalar.indexCast v376
  ![v377.toNat]
def k0_mult2 (v378 : BitVec 32) : BitVec 32 :=
  let c8_i32 : BitVec 32 := 8#32
  let v379 : BitVec 32 := Scalar.muli v378 c8_i32
  v379

def k0_off2 (k0_t1 : Fin k0_t1_loop.trips) (k0_t2 : Fin k0_t2_loop.trips) : Fin 1 → Nat :=
  let c2_i32_197 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_188 : BitVec 32 := 0#32
  let c1_i32_190 : BitVec 32 := 1#32
  let arg19 : BitVec 32 := Scf.iv c0_i32_188 c1_i32_190 k0_t2
  let c1_i32_195 : BitVec 32 := 1#32
  let v373 : BitVec 32 := Scalar.muli arg19 c1_i32_195
  let v374 : BitVec 32 := Scalar.addi c0_i32_196 v373
  let v381 : BitVec 32 := Scalar.addi v370 v374
  let v382 : BitVec 32 := Scalar.muli c2_i32_197 v381
  let c1_i32_198 : BitVec 32 := 1#32
  let v383 : BitVec 32 := Scalar.addi v382 c1_i32_198
  let v384 : Index := Scalar.indexCast v383
  ![v384.toNat]
def k0_mult3 (v385 : BitVec 32) : BitVec 32 :=
  let c8_i32_199 : BitVec 32 := 8#32
  let v386 : BitVec 32 := Scalar.muli v385 c8_i32_199
  v386

def k0_off3 (v378 : BitVec 32) : Fin 3 → Nat :=
  let c8_i32 : BitVec 32 := 8#32
  let v379 : BitVec 32 := Scalar.muli v378 c8_i32
  let v380 : BitVec 32 := v379
  let v418 : Index := Scalar.indexCast v380
  let c0_215 : Index := 0#32
  ![v418.toNat, 0, 0]
def k0_off4 (v385 : BitVec 32) : Fin 3 → Nat :=
  let c8_i32_199 : BitVec 32 := 8#32
  let v386 : BitVec 32 := Scalar.muli v385 c8_i32_199
  let v387 : BitVec 32 := v386
  let v422 : Index := Scalar.indexCast v387
  let c0_216 : Index := 0#32
  ![v422.toNat, 0, 0]
def k0_off5 (k0_t2 : Fin k0_t2_loop.trips) : Fin 3 → Nat :=
  let c0_i32_196 : BitVec 32 := 0#32
  let c0_i32_188 : BitVec 32 := 0#32
  let c1_i32_190 : BitVec 32 := 1#32
  let arg19 : BitVec 32 := Scf.iv c0_i32_188 c1_i32_190 k0_t2
  let c1_i32_195 : BitVec 32 := 1#32
  let v373 : BitVec 32 := Scalar.muli arg19 c1_i32_195
  let v374 : BitVec 32 := Scalar.addi c0_i32_196 v373
  let c0_i32_201 : BitVec 32 := 0#32
  let v389 : BitVec 1 := Scalar.cmpi .sgt v374 c0_i32_201
  let v390 : BitVec 32 := Scalar.extui v389
  let c0_i32_202 : BitVec 32 := 0#32
  let v391 : BitVec 1 := Scalar.cmpi .slt v374 c0_i32_202
  let v392 : BitVec 32 := Scalar.extui v391
  let v393 : BitVec 32 := Scalar.subi v390 v392
  let c8_i32_200 : BitVec 32 := 8#32
  let c0_i32_203 : BitVec 32 := 0#32
  let v394 : BitVec 1 := Scalar.cmpi .sgt c8_i32_200 c0_i32_203
  let v395 : BitVec 32 := Scalar.extui v394
  let c0_i32_204 : BitVec 32 := 0#32
  let v396 : BitVec 1 := Scalar.cmpi .slt c8_i32_200 c0_i32_204
  let v397 : BitVec 32 := Scalar.extui v396
  let v398 : BitVec 32 := Scalar.subi v395 v397
  let v399 : BitVec 1 := Scalar.cmpi .ne v393 v398
  let v400 : BitVec 32 := Scalar.remsi v374 c8_i32_200
  let c0_i32_205 : BitVec 32 := 0#32
  let v401 : BitVec 1 := Scalar.cmpi .ne v400 c0_i32_205
  let v402 : BitVec 1 := Scalar.andi v399 v401
  let v388 : BitVec 32 := Scalar.divsi v374 c8_i32_200
  let c1_i32_206 : BitVec 32 := 1#32
  let v403 : BitVec 32 := Scalar.subi v388 c1_i32_206
  let v404 : BitVec 32 := Scalar.select v402 v403 v388
  let c8_i32_207 : BitVec 32 := 8#32
  let v405 : BitVec 32 := Scalar.muli v404 c8_i32_207
  let c8_i32_208 : BitVec 32 := 8#32
  let v406 : BitVec 32 := Scalar.muli v405 c8_i32_208
  let c8_i32_209 : BitVec 32 := 8#32
  let c0_i32_210 : BitVec 32 := 0#32
  let v407 : BitVec 1 := Scalar.cmpi .eq c8_i32_209 c0_i32_210
  let c1_i32_211 : BitVec 32 := 1#32
  let v408 : BitVec 32 := Scalar.select v407 c1_i32_211 c8_i32_209
  let v409 : BitVec 32 := Scalar.remsi v374 v408
  let c0_i32_213 : BitVec 32 := 0#32
  let v411 : BitVec 1 := Scalar.cmpi .slt v409 c0_i32_213
  let c0_i32_214 : BitVec 32 := 0#32
  let v412 : BitVec 1 := Scalar.cmpi .slt v408 c0_i32_214
  let v413 : BitVec 1 := Scalar.xori v411 v412
  let c0_i32_212 : BitVec 32 := 0#32
  let v410 : BitVec 1 := Scalar.cmpi .ne v409 c0_i32_212
  let v414 : BitVec 1 := Scalar.andi v413 v410
  let v415 : BitVec 32 := Scalar.addi v409 v408
  let v416 : BitVec 32 := Scalar.select v414 v415 v409
  let v417 : BitVec 32 := Scalar.addi v406 v416
  let v431 : Index := Scalar.indexCast v417
  let c0_217 : Index := 0#32
  ![v431.toNat, 0, 0]
def k0_off6 (v378 : BitVec 32) : Fin 2 → Nat :=
  let c8_i32 : BitVec 32 := 8#32
  let v379 : BitVec 32 := Scalar.muli v378 c8_i32
  let v380 : BitVec 32 := v379
  let v435 : Index := Scalar.indexCast v380
  let c0_218 : Index := 0#32
  ![v435.toNat, 0]

def k0_chk1 (i : grid0.Coords) (v378 : BitVec 32) : Prop :=
  (∀ (k0_h1 : k0_cond1 i = 1#1), 8 ∣ (k0_mult2 v378).toNat) ∧
  (∀ (k0_h1 : k0_cond1 i = 1#1), ∀ a, (k0_off3 v378) a + S8x2x128.size a ≤ S384x2x128.size a) ∧
  (∀ (k0_h1 : k0_cond1 i = 1#1), ∀ a, (k0_off6 v378) a + S8x128.size a ≤ S384x128.size a)
theorem k0_mult2_dvd : ∀ (i : grid0.Coords) (v378 : BitVec 32) (k0_hw1 : k0_chk1 i v378), ∀ (k0_h1 : k0_cond1 i = 1#1), 8 ∣ (k0_mult2 v378).toNat := fun i v378 k0_hw1 k0_h1 => k0_hw1.1 k0_h1
theorem k0_off3_inb : ∀ (i : grid0.Coords) (v378 : BitVec 32) (k0_hw1 : k0_chk1 i v378), ∀ (k0_h1 : k0_cond1 i = 1#1), ∀ a, (k0_off3 v378) a + S8x2x128.size a ≤ S384x2x128.size a := fun i v378 k0_hw1 k0_h1 => k0_hw1.2.1 k0_h1
theorem k0_off6_inb : ∀ (i : grid0.Coords) (v378 : BitVec 32) (k0_hw1 : k0_chk1 i v378), ∀ (k0_h1 : k0_cond1 i = 1#1), ∀ a, (k0_off6 v378) a + S8x128.size a ≤ S384x128.size a := fun i v378 k0_hw1 k0_h1 => k0_hw1.2.2 k0_h1

def k0_off7 (v385 : BitVec 32) : Fin 2 → Nat :=
  let c8_i32_199 : BitVec 32 := 8#32
  let v386 : BitVec 32 := Scalar.muli v385 c8_i32_199
  let v387 : BitVec 32 := v386
  let v437 : Index := Scalar.indexCast v387
  let c0_219 : Index := 0#32
  ![v437.toNat, 0]

def k0_chk2 (i : grid0.Coords) (v385 : BitVec 32) : Prop :=
  (∀ (k0_h1 : k0_cond1 i = 1#1), 8 ∣ (k0_mult3 v385).toNat) ∧
  (∀ (k0_h1 : k0_cond1 i = 1#1), ∀ a, (k0_off4 v385) a + S8x2x128.size a ≤ S384x2x128.size a) ∧
  (∀ (k0_h1 : k0_cond1 i = 1#1), ∀ a, (k0_off7 v385) a + S8x128.size a ≤ S384x128.size a)
theorem k0_mult3_dvd : ∀ (i : grid0.Coords) (v385 : BitVec 32) (k0_hw2 : k0_chk2 i v385), ∀ (k0_h1 : k0_cond1 i = 1#1), 8 ∣ (k0_mult3 v385).toNat := fun i v385 k0_hw2 k0_h1 => k0_hw2.1 k0_h1
theorem k0_off4_inb : ∀ (i : grid0.Coords) (v385 : BitVec 32) (k0_hw2 : k0_chk2 i v385), ∀ (k0_h1 : k0_cond1 i = 1#1), ∀ a, (k0_off4 v385) a + S8x2x128.size a ≤ S384x2x128.size a := fun i v385 k0_hw2 k0_h1 => k0_hw2.2.1 k0_h1
theorem k0_off7_inb : ∀ (i : grid0.Coords) (v385 : BitVec 32) (k0_hw2 : k0_chk2 i v385), ∀ (k0_h1 : k0_cond1 i = 1#1), ∀ a, (k0_off7 v385) a + S8x128.size a ≤ S384x128.size a := fun i v385 k0_hw2 k0_h1 => k0_hw2.2.2 k0_h1

def k0_off8 (k0_t2 : Fin k0_t2_loop.trips) : Fin 2 → Nat :=
  let c0_i32_196 : BitVec 32 := 0#32
  let c0_i32_188 : BitVec 32 := 0#32
  let c1_i32_190 : BitVec 32 := 1#32
  let arg19 : BitVec 32 := Scf.iv c0_i32_188 c1_i32_190 k0_t2
  let c1_i32_195 : BitVec 32 := 1#32
  let v373 : BitVec 32 := Scalar.muli arg19 c1_i32_195
  let v374 : BitVec 32 := Scalar.addi c0_i32_196 v373
  let c0_i32_201 : BitVec 32 := 0#32
  let v389 : BitVec 1 := Scalar.cmpi .sgt v374 c0_i32_201
  let v390 : BitVec 32 := Scalar.extui v389
  let c0_i32_202 : BitVec 32 := 0#32
  let v391 : BitVec 1 := Scalar.cmpi .slt v374 c0_i32_202
  let v392 : BitVec 32 := Scalar.extui v391
  let v393 : BitVec 32 := Scalar.subi v390 v392
  let c8_i32_200 : BitVec 32 := 8#32
  let c0_i32_203 : BitVec 32 := 0#32
  let v394 : BitVec 1 := Scalar.cmpi .sgt c8_i32_200 c0_i32_203
  let v395 : BitVec 32 := Scalar.extui v394
  let c0_i32_204 : BitVec 32 := 0#32
  let v396 : BitVec 1 := Scalar.cmpi .slt c8_i32_200 c0_i32_204
  let v397 : BitVec 32 := Scalar.extui v396
  let v398 : BitVec 32 := Scalar.subi v395 v397
  let v399 : BitVec 1 := Scalar.cmpi .ne v393 v398
  let v400 : BitVec 32 := Scalar.remsi v374 c8_i32_200
  let c0_i32_205 : BitVec 32 := 0#32
  let v401 : BitVec 1 := Scalar.cmpi .ne v400 c0_i32_205
  let v402 : BitVec 1 := Scalar.andi v399 v401
  let v388 : BitVec 32 := Scalar.divsi v374 c8_i32_200
  let c1_i32_206 : BitVec 32 := 1#32
  let v403 : BitVec 32 := Scalar.subi v388 c1_i32_206
  let v404 : BitVec 32 := Scalar.select v402 v403 v388
  let c8_i32_207 : BitVec 32 := 8#32
  let v405 : BitVec 32 := Scalar.muli v404 c8_i32_207
  let c8_i32_208 : BitVec 32 := 8#32
  let v406 : BitVec 32 := Scalar.muli v405 c8_i32_208
  let c8_i32_209 : BitVec 32 := 8#32
  let c0_i32_210 : BitVec 32 := 0#32
  let v407 : BitVec 1 := Scalar.cmpi .eq c8_i32_209 c0_i32_210
  let c1_i32_211 : BitVec 32 := 1#32
  let v408 : BitVec 32 := Scalar.select v407 c1_i32_211 c8_i32_209
  let v409 : BitVec 32 := Scalar.remsi v374 v408
  let c0_i32_213 : BitVec 32 := 0#32
  let v411 : BitVec 1 := Scalar.cmpi .slt v409 c0_i32_213
  let c0_i32_214 : BitVec 32 := 0#32
  let v412 : BitVec 1 := Scalar.cmpi .slt v408 c0_i32_214
  let v413 : BitVec 1 := Scalar.xori v411 v412
  let c0_i32_212 : BitVec 32 := 0#32
  let v410 : BitVec 1 := Scalar.cmpi .ne v409 c0_i32_212
  let v414 : BitVec 1 := Scalar.andi v413 v410
  let v415 : BitVec 32 := Scalar.addi v409 v408
  let v416 : BitVec 32 := Scalar.select v414 v415 v409
  let v417 : BitVec 32 := Scalar.addi v406 v416
  let v440 : Index := Scalar.indexCast v417
  let c0_220 : Index := 0#32
  ![v440.toNat, 0]
@[reducible] def k0_t3_loop : Scf.Loop 32 :=
  let c0_i32_192 : BitVec 32 := 0#32
  let c3_i32 : BitVec 32 := 3#32
  let v372 : BitVec 32 := Scalar.addi c0_i32_192 c3_i32
  let c1_i32_193 : BitVec 32 := 1#32
  ⟨c0_i32_192, v372, c1_i32_193⟩
def k0_mult4 (k0_t3 : Fin k0_t3_loop.trips) : BitVec 32 :=
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  v375
def k0_off9 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v377 : BitVec 32 := Scalar.addi v370 v376
  let v378 : Index := Scalar.indexCast v377
  let c0_198 : Index := 0#32
  ![v378.toNat, 0]
def k0_off10 (k0_t3 : Fin k0_t3_loop.trips) (c0_i32_205 : BitVec 32) (c0_i32_207 : BitVec 32) : Fin 2 → Nat :=
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let c0_i32_199 : BitVec 32 := 0#32
  let v389 : BitVec 1 := Scalar.cmpi .sgt v376 c0_i32_199
  let v390 : BitVec 32 := Scalar.extui v389
  let c0_i32_200 : BitVec 32 := 0#32
  let v391 : BitVec 1 := Scalar.cmpi .slt v376 c0_i32_200
  let v392 : BitVec 32 := Scalar.extui v391
  let v393 : BitVec 32 := Scalar.subi v390 v392
  let c8_i32 : BitVec 32 := 8#32
  let c0_i32_201 : BitVec 32 := 0#32
  let v394 : BitVec 1 := Scalar.cmpi .sgt c8_i32 c0_i32_201
  let v395 : BitVec 32 := Scalar.extui v394
  let c0_i32_202 : BitVec 32 := 0#32
  let v396 : BitVec 1 := Scalar.cmpi .slt c8_i32 c0_i32_202
  let v397 : BitVec 32 := Scalar.extui v396
  let v398 : BitVec 32 := Scalar.subi v395 v397
  let v399 : BitVec 1 := Scalar.cmpi .ne v393 v398
  let v400 : BitVec 32 := Scalar.remsi v376 c8_i32
  let c0_i32_203 : BitVec 32 := 0#32
  let v401 : BitVec 1 := Scalar.cmpi .ne v400 c0_i32_203
  let v402 : BitVec 1 := Scalar.andi v399 v401
  let v388 : BitVec 32 := Scalar.divsi v376 c8_i32
  let c1_i32_204 : BitVec 32 := 1#32
  let v403 : BitVec 32 := Scalar.subi v388 c1_i32_204
  let v404 : BitVec 32 := Scalar.select v402 v403 v388
  let v405 : BitVec 32 := Scalar.addi v404 c0_i32_205
  let c8_i32_206 : BitVec 32 := 8#32
  let v406 : BitVec 32 := Scalar.muli v405 c8_i32_206
  let v407 : BitVec 32 := Scalar.addi v406 c0_i32_207
  let c8_i32_208 : BitVec 32 := 8#32
  let v408 : BitVec 32 := Scalar.muli v407 c8_i32_208
  let v411 : Index := Scalar.indexCast v408
  let c0_209 : Index := 0#32
  ![v411.toNat, 0]
def k0_off11 (k0_t3 : Fin k0_t3_loop.trips) (c0_i32_205 : BitVec 32) (c0_i32_207 : BitVec 32) : Fin 3 → Nat :=
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let c0_i32_199 : BitVec 32 := 0#32
  let v389 : BitVec 1 := Scalar.cmpi .sgt v376 c0_i32_199
  let v390 : BitVec 32 := Scalar.extui v389
  let c0_i32_200 : BitVec 32 := 0#32
  let v391 : BitVec 1 := Scalar.cmpi .slt v376 c0_i32_200
  let v392 : BitVec 32 := Scalar.extui v391
  let v393 : BitVec 32 := Scalar.subi v390 v392
  let c8_i32 : BitVec 32 := 8#32
  let c0_i32_201 : BitVec 32 := 0#32
  let v394 : BitVec 1 := Scalar.cmpi .sgt c8_i32 c0_i32_201
  let v395 : BitVec 32 := Scalar.extui v394
  let c0_i32_202 : BitVec 32 := 0#32
  let v396 : BitVec 1 := Scalar.cmpi .slt c8_i32 c0_i32_202
  let v397 : BitVec 32 := Scalar.extui v396
  let v398 : BitVec 32 := Scalar.subi v395 v397
  let v399 : BitVec 1 := Scalar.cmpi .ne v393 v398
  let v400 : BitVec 32 := Scalar.remsi v376 c8_i32
  let c0_i32_203 : BitVec 32 := 0#32
  let v401 : BitVec 1 := Scalar.cmpi .ne v400 c0_i32_203
  let v402 : BitVec 1 := Scalar.andi v399 v401
  let v388 : BitVec 32 := Scalar.divsi v376 c8_i32
  let c1_i32_204 : BitVec 32 := 1#32
  let v403 : BitVec 32 := Scalar.subi v388 c1_i32_204
  let v404 : BitVec 32 := Scalar.select v402 v403 v388
  let v405 : BitVec 32 := Scalar.addi v404 c0_i32_205
  let c8_i32_206 : BitVec 32 := 8#32
  let v406 : BitVec 32 := Scalar.muli v405 c8_i32_206
  let v407 : BitVec 32 := Scalar.addi v406 c0_i32_207
  let c8_i32_208 : BitVec 32 := 8#32
  let v408 : BitVec 32 := Scalar.muli v407 c8_i32_208
  let v414 : Index := Scalar.indexCast v408
  let c0_210 : Index := 0#32
  ![v414.toNat, 0, 0]
def k0_off12 (k0_t1 : Fin k0_t1_loop.trips) (k0_t3 : Fin k0_t3_loop.trips) (c0_i32_211 : BitVec 32) : Fin 2 → Nat :=
  let c2_i32 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v419 : BitVec 32 := Scalar.addi v370 v376
  let v420 : BitVec 32 := Scalar.muli c2_i32 v419
  let v421 : BitVec 32 := Scalar.addi v420 c0_i32_211
  let v422 : Index := Scalar.indexCast v421
  let c0_212 : Index := 0#32
  ![v422.toNat, 0]
def k0_off13 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v540 : BitVec 32 := Scalar.addi v370 v376
  let v541 : Index := Scalar.indexCast v540
  let c128_260 : Index := 128#32
  ![v541.toNat, 128]
def k0_off14 (k0_t1 : Fin k0_t1_loop.trips) (k0_t3 : Fin k0_t3_loop.trips) (c0_i32_278 : BitVec 32) : Fin 2 → Nat :=
  let c2_i32_277 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v582 : BitVec 32 := Scalar.addi v370 v376
  let v583 : BitVec 32 := Scalar.muli c2_i32_277 v582
  let v584 : BitVec 32 := Scalar.addi v583 c0_i32_278
  let v585 : Index := Scalar.indexCast v584
  let c128_279 : Index := 128#32
  ![v585.toNat, 128]
def k0_off15 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v703 : BitVec 32 := Scalar.addi v370 v376
  let v704 : Index := Scalar.indexCast v703
  let c256_328 : Index := 256#32
  ![v704.toNat, 256]
def k0_off16 (k0_t1 : Fin k0_t1_loop.trips) (k0_t3 : Fin k0_t3_loop.trips) (c0_i32_346 : BitVec 32) : Fin 2 → Nat :=
  let c2_i32_345 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v745 : BitVec 32 := Scalar.addi v370 v376
  let v746 : BitVec 32 := Scalar.muli c2_i32_345 v745
  let v747 : BitVec 32 := Scalar.addi v746 c0_i32_346
  let v748 : Index := Scalar.indexCast v747
  let c256_347 : Index := 256#32
  ![v748.toNat, 256]
def k0_off17 (k0_t1 : Fin k0_t1_loop.trips) (k0_t3 : Fin k0_t3_loop.trips) : Fin 2 → Nat :=
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v866 : BitVec 32 := Scalar.addi v370 v376
  let v867 : Index := Scalar.indexCast v866
  let c384_396 : Index := 384#32
  ![v867.toNat, 384]
def k0_off18 (k0_t1 : Fin k0_t1_loop.trips) (k0_t3 : Fin k0_t3_loop.trips) (c0_i32_414 : BitVec 32) : Fin 2 → Nat :=
  let c2_i32_413 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v908 : BitVec 32 := Scalar.addi v370 v376
  let v909 : BitVec 32 := Scalar.muli c2_i32_413 v908
  let v910 : BitVec 32 := Scalar.addi v909 c0_i32_414
  let v911 : Index := Scalar.indexCast v910
  let c384_415 : Index := 384#32
  ![v911.toNat, 384]
def k0_off19 (k0_t1 : Fin k0_t1_loop.trips) (k0_t3 : Fin k0_t3_loop.trips) (c0_i32_482 : BitVec 32) : Fin 2 → Nat :=
  let c2_i32_481 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1071 : BitVec 32 := Scalar.addi v370 v376
  let v1072 : BitVec 32 := Scalar.muli c2_i32_481 v1071
  let v1073 : BitVec 32 := Scalar.addi v1072 c0_i32_482
  let v1074 : Index := Scalar.indexCast v1073
  let c512 : Index := 512#32
  ![v1074.toNat, 512]
def k0_off20 (k0_t1 : Fin k0_t1_loop.trips) (k0_t3 : Fin k0_t3_loop.trips) (c0_i32_548 : BitVec 32) : Fin 2 → Nat :=
  let c2_i32_547 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1234 : BitVec 32 := Scalar.addi v370 v376
  let v1235 : BitVec 32 := Scalar.muli c2_i32_547 v1234
  let v1236 : BitVec 32 := Scalar.addi v1235 c0_i32_548
  let v1237 : Index := Scalar.indexCast v1236
  let c640 : Index := 640#32
  ![v1237.toNat, 640]
def k0_off21 (k0_t1 : Fin k0_t1_loop.trips) (k0_t3 : Fin k0_t3_loop.trips) (c0_i32_614 : BitVec 32) : Fin 2 → Nat :=
  let c2_i32_613 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1397 : BitVec 32 := Scalar.addi v370 v376
  let v1398 : BitVec 32 := Scalar.muli c2_i32_613 v1397
  let v1399 : BitVec 32 := Scalar.addi v1398 c0_i32_614
  let v1400 : Index := Scalar.indexCast v1399
  let c768 : Index := 768#32
  ![v1400.toNat, 768]
def k0_off22 (k0_t1 : Fin k0_t1_loop.trips) (k0_t3 : Fin k0_t3_loop.trips) (c0_i32_680 : BitVec 32) : Fin 2 → Nat :=
  let c2_i32_679 : BitVec 32 := 2#32
  let c0_i32_187 : BitVec 32 := 0#32
  let c0_i32_184 : BitVec 32 := 0#32
  let c1_i32 : BitVec 32 := 1#32
  let arg18 : BitVec 32 := Scf.iv c0_i32_184 c1_i32 k0_t1
  let c1_i32_186 : BitVec 32 := 1#32
  let v367 : BitVec 32 := Scalar.muli arg18 c1_i32_186
  let v368 : BitVec 32 := Scalar.addi c0_i32_187 v367
  let c96_i32 : BitVec 32 := 96#32
  let v369 : BitVec 32 := Scalar.muli v368 c96_i32
  let v370 : BitVec 32 := v369
  let c0_i32_196 : BitVec 32 := 0#32
  let c0_i32_192 : BitVec 32 := 0#32
  let c1_i32_193 : BitVec 32 := 1#32
  let arg19 : BitVec 32 := Scf.iv c0_i32_192 c1_i32_193 k0_t3
  let c1_i32_195 : BitVec 32 := 1#32
  let v373 : BitVec 32 := Scalar.muli arg19 c1_i32_195
  let v374 : BitVec 32 := Scalar.addi c0_i32_196 v373
  let c32_i32_197 : BitVec 32 := 32#32
  let v375 : BitVec 32 := Scalar.muli v374 c32_i32_197
  let v376 : BitVec 32 := v375
  let v1560 : BitVec 32 := Scalar.addi v370 v376
  let v1561 : BitVec 32 := Scalar.muli c2_i32_679 v1560
  let v1562 : BitVec 32 := Scalar.addi v1561 c0_i32_680
  let v1563 : Index := Scalar.indexCast v1562
  let c896 : Index := 896#32
  ![v1563.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S3072x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3072x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S48x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S48x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S24x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S24x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16384x1x6144 : Shape := ⟨3, ![16384, 1, 6144]⟩
abbrev S3072x10240 : Shape := ⟨2, ![3072, 10240]⟩
abbrev S48x10240 : Shape := ⟨2, ![48, 10240]⟩
abbrev S24x10240 : Shape := ⟨2, ![24, 10240]⟩
abbrev S6144 : Shape := ⟨1, ![6144]⟩
abbrev S16384x6144 : Shape := ⟨2, ![16384, 6144]⟩
abbrev S_ : Shape := ⟨0, ![]⟩
abbrev S3072 : Shape := ⟨1, ![3072]⟩
abbrev S3072x1 : Shape := ⟨2, ![3072, 1]⟩
abbrev S16384x3072 : Shape := ⟨2, ![16384, 3072]⟩
abbrev S16384x10240 : Shape := ⟨2, ![16384, 10240]⟩

abbrev nBuf : Space → Nat
  | .hbm => 154
  | .vmem => 0
  | .smem => 0
  | _ => 0

abbrev hbmTy0_0 (i : Nat) : BufTy := match i % 128 with
  | 0 => ⟨S16384x1x6144, .bf16⟩
  | 1 => ⟨S3072x10240, .i8⟩
  | 2 => ⟨S3072x10240, .i8⟩
  | 3 => ⟨S48x10240, .bf16⟩
  | 4 => ⟨S48x10240, .bf16⟩
  | 5 => ⟨S24x10240, .i8⟩
  | 6 => ⟨S24x10240, .i8⟩
  | 7 => ⟨S6144, .i32⟩
  | 8 => ⟨S16384x6144, .bf16⟩
  | 9 => ⟨S24x10240, .i32⟩
  | 10 => ⟨S_, .i32⟩
  | 11 => ⟨S24x10240, .i32⟩
  | 12 => ⟨S24x10240, .i32⟩
  | 13 => ⟨S24x10240, .bf16⟩
  | 14 => ⟨S_, .i32⟩
  | 15 => ⟨S24x10240, .i32⟩
  | 16 => ⟨S24x10240, .i32⟩
  | 17 => ⟨S24x10240, .bf16⟩
  | 18 => ⟨S48x10240, .bf16⟩
  | 19 => ⟨S3072x10240, .i32⟩
  | 20 => ⟨S_, .i32⟩
  | 21 => ⟨S3072x10240, .i32⟩
  | 22 => ⟨S3072x10240, .i32⟩
  | 23 => ⟨S3072x10240, .bf16⟩
  | 24 => ⟨S3072, .i32⟩
  | 25 => ⟨S_, .i32⟩
  | 26 => ⟨S3072, .i32⟩
  | 27 => ⟨S3072, .i1⟩
  | 28 => ⟨S_, .i32⟩
  | 29 => ⟨S3072, .i32⟩
  | 30 => ⟨S3072, .i32⟩
  | 31 => ⟨S3072, .i32⟩
  | 32 => ⟨S3072x1, .i32⟩
  | 33 => ⟨S3072x10240, .bf16⟩
  | 34 => ⟨S_, .i32⟩
  | 35 => ⟨S3072, .i32⟩
  | 36 => ⟨S3072, .i1⟩
  | 37 => ⟨S_, .i32⟩
  | 38 => ⟨S3072, .i32⟩
  | 39 => ⟨S3072, .i32⟩
  | 40 => ⟨S3072, .i32⟩
  | 41 => ⟨S3072x1, .i32⟩
  | 42 => ⟨S3072x10240, .bf16⟩
  | 43 => ⟨S3072x10240, .bf16⟩
  | 44 => ⟨S3072x10240, .bf16⟩
  | 45 => ⟨S16384x3072, .bf16⟩
  | 46 => ⟨S16384x10240, .f32⟩
  | 47 => ⟨S3072x10240, .i32⟩
  | 48 => ⟨S_, .i32⟩
  | 49 => ⟨S3072x10240, .i32⟩
  | 50 => ⟨S3072x10240, .i32⟩
  | 51 => ⟨S3072x10240, .bf16⟩
  | 52 => ⟨S3072, .i32⟩
  | 53 => ⟨S_, .i32⟩
  | 54 => ⟨S3072, .i32⟩
  | 55 => ⟨S3072, .i1⟩
  | 56 => ⟨S_, .i32⟩
  | 57 => ⟨S3072, .i32⟩
  | 58 => ⟨S3072, .i32⟩
  | 59 => ⟨S3072, .i32⟩
  | 60 => ⟨S3072x1, .i32⟩
  | 61 => ⟨S3072x10240, .bf16⟩
  | 62 => ⟨S_, .i32⟩
  | 63 => ⟨S3072, .i32⟩
  | 64 => ⟨S3072, .i1⟩
  | 65 => ⟨S_, .i32⟩
  | 66 => ⟨S3072, .i32⟩
  | 67 => ⟨S3072, .i32⟩
  | 68 => ⟨S3072, .i32⟩
  | 69 => ⟨S3072x1, .i32⟩
  | 70 => ⟨S3072x10240, .bf16⟩
  | 71 => ⟨S3072x10240, .bf16⟩
  | 72 => ⟨S3072x10240, .bf16⟩
  | 73 => ⟨S16384x3072, .bf16⟩
  | 74 => ⟨S16384x10240, .f32⟩
  | 75 => ⟨S16384x10240, .f32⟩
  | 76 => ⟨S24x10240, .i32⟩
  | 77 => ⟨S_, .i32⟩
  | 78 => ⟨S24x10240, .i32⟩
  | 79 => ⟨S24x10240, .i32⟩
  | 80 => ⟨S24x10240, .bf16⟩
  | 81 => ⟨S_, .i32⟩
  | 82 => ⟨S24x10240, .i32⟩
  | 83 => ⟨S24x10240, .i32⟩
  | 84 => ⟨S24x10240, .bf16⟩
  | 85 => ⟨S48x10240, .bf16⟩
  | 86 => ⟨S3072x10240, .i32⟩
  | 87 => ⟨S_, .i32⟩
  | 88 => ⟨S3072x10240, .i32⟩
  | 89 => ⟨S3072x10240, .i32⟩
  | 90 => ⟨S3072x10240, .bf16⟩
  | 91 => ⟨S3072, .i32⟩
  | 92 => ⟨S_, .i32⟩
  | 93 => ⟨S3072, .i32⟩
  | 94 => ⟨S3072, .i1⟩
  | 95 => ⟨S_, .i32⟩
  | 96 => ⟨S3072, .i32⟩
  | 97 => ⟨S3072, .i32⟩
  | 98 => ⟨S3072, .i32⟩
  | 99 => ⟨S3072x1, .i32⟩
  | 100 => ⟨S3072x10240, .bf16⟩
  | 101 => ⟨S_, .i32⟩
  | 102 => ⟨S3072, .i32⟩
  | 103 => ⟨S3072, .i1⟩
  | 104 => ⟨S_, .i32⟩
  | 105 => ⟨S3072, .i32⟩
  | 106 => ⟨S3072, .i32⟩
  | 107 => ⟨S3072, .i32⟩
  | 108 => ⟨S3072x1, .i32⟩
  | 109 => ⟨S3072x10240, .bf16⟩
  | 110 => ⟨S3072x10240, .bf16⟩
  | 111 => ⟨S3072x10240, .bf16⟩
  | 112 => ⟨S16384x3072, .bf16⟩
  | 113 => ⟨S16384x10240, .f32⟩
  | 114 => ⟨S3072x10240, .i32⟩
  | 115 => ⟨S_, .i32⟩
  | 116 => ⟨S3072x10240, .i32⟩
  | 117 => ⟨S3072x10240, .i32⟩
  | 118 => ⟨S3072x10240, .bf16⟩
  | 119 => ⟨S3072, .i32⟩
  | 120 => ⟨S_, .i32⟩
  | 121 => ⟨S3072, .i32⟩
  | 122 => ⟨S3072, .i1⟩
  | 123 => ⟨S_, .i32⟩
  | 124 => ⟨S3072, .i32⟩
  | 125 => ⟨S3072, .i32⟩
  | 126 => ⟨S3072, .i32⟩
  | 127 => ⟨S3072x1, .i32⟩
  | _ => ⟨S16384x1x6144, .bf16⟩

abbrev hbmTy0_1 (i : Nat) : BufTy := match i % 128 with
  | 0 => ⟨S3072x10240, .bf16⟩
  | 1 => ⟨S_, .i32⟩
  | 2 => ⟨S3072, .i32⟩
  | 3 => ⟨S3072, .i1⟩
  | 4 => ⟨S_, .i32⟩
  | 5 => ⟨S3072, .i32⟩
  | 6 => ⟨S3072, .i32⟩
  | 7 => ⟨S3072, .i32⟩
  | 8 => ⟨S3072x1, .i32⟩
  | 9 => ⟨S3072x10240, .bf16⟩
  | 10 => ⟨S3072x10240, .bf16⟩
  | 11 => ⟨S3072x10240, .bf16⟩
  | 12 => ⟨S16384x3072, .bf16⟩
  | 13 => ⟨S16384x10240, .f32⟩
  | 14 => ⟨S16384x10240, .f32⟩
  | 15 => ⟨S16384x10240, .f32⟩
  | 16 => ⟨S16384x10240, .f32⟩
  | 17 => ⟨S_, .f32⟩
  | 18 => ⟨S16384x10240, .f32⟩
  | 19 => ⟨S16384x10240, .f32⟩
  | 20 => ⟨S_, .f32⟩
  | 21 => ⟨S16384x10240, .f32⟩
  | 22 => ⟨S16384x10240, .f32⟩
  | 23 => ⟨S16384x10240, .f32⟩
  | 24 => ⟨S16384x10240, .f32⟩
  | 25 => ⟨S16384x10240, .bf16⟩
  | _ => ⟨S16384x1x6144, .bf16⟩

abbrev hbmTy (i : Nat) : BufTy := match i / 128 with
  | 0 => hbmTy0_0 i
  | 1 => hbmTy0_1 i
  | _ => ⟨S16384x1x6144, .bf16⟩

abbrev bufTy : (tb : Table) → Fin (tcTables nBuf tb) → BufTy
  | .hbm, ⟨i, _⟩ => hbmTy i
  | _, _ => ⟨S16384x1x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_c_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_c_9 : Ref sig .tc := ⟨.hbm, 62, rfl⟩
abbrev main_v44 : Ref sig .tc := ⟨.hbm, 63, rfl⟩
abbrev main_v45 : Ref sig .tc := ⟨.hbm, 64, rfl⟩
abbrev main_c_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_c_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_13 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_v69 : Ref sig .tc := ⟨.hbm, 93, rfl⟩
abbrev main_v70 : Ref sig .tc := ⟨.hbm, 94, rfl⟩
abbrev main_c_15 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_16 : Ref sig .tc := ⟨.hbm, 101, rfl⟩
abbrev main_v76 : Ref sig .tc := ⟨.hbm, 102, rfl⟩
abbrev main_v77 : Ref sig .tc := ⟨.hbm, 103, rfl⟩
abbrev main_c_17 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_c_18 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_c_19 : Ref sig .tc := ⟨.hbm, 120, rfl⟩
abbrev main_v92 : Ref sig .tc := ⟨.hbm, 121, rfl⟩
abbrev main_v93 : Ref sig .tc := ⟨.hbm, 122, rfl⟩
abbrev main_c_20 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_c_21 : Ref sig .tc := ⟨.hbm, 129, rfl⟩
abbrev main_v99 : Ref sig .tc := ⟨.hbm, 130, rfl⟩
abbrev main_v100 : Ref sig .tc := ⟨.hbm, 131, rfl⟩
abbrev main_c_22 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst : Ref sig .tc := ⟨.hbm, 145, rfl⟩
abbrev main_v113 : Ref sig .tc := ⟨.hbm, 146, rfl⟩
abbrev main_v114 : Ref sig .tc := ⟨.hbm, 147, rfl⟩
abbrev main_cst_23 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩

abbrev nD : Nat := 1
abbrev τ : Topo := Topo.v7x

variable {F : FTy → Type} [FloatOps F]
-- ==== Proof.KernelSetup.lean ====
/- What the runs of `Kernel`'s body share: the points at which each window is fetched and written back, what the region
   finds in memory (the host reshape of the tokens comes before it), the prefetched row groups, the blocks of the windows,
   the points at which the body dequantises a block column, and the scratch buffers. -/
module

public import proofs.«01_k».proof.Proof.Gen.Kernel.Launch
public import proofs.«01_k».proof.Proof.Gen.Kernel.Skeleton
public import proofs.«01_k».proof.Proof.Gen.Kernel.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 32), at any contents of the tables (its index map reads none). -/
theorem fetch0_1 (a : (pcfg0 (F := F)).Adm) : ∀ t : Fin (cfg0 a).N, ((cfg0 a).win 1).fetch t = true ↔ t.val % 32 = 0 :=
  (fun t => Pipeline.Window.fetchOf_reads cc0_transform_1 reads0_1 hreads0_1 0 (by decide) (by decide) (Pipeline.Window.sep_of_coord cc0_transform_1 0 1 (fun _ => rfl) (by decide)) (P := 32) (by decide) t : ∀ t : Fin grid0.N, Pipeline.Window.fetchOf grid0 false cc0_transform_1 t = true ↔ t.val % 32 = 0)
/-- Window 2 (operand 3 (%arg2)) is fetched at the points ≡ 0 (mod 32), at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 0 (by decide) (by decide) (Pipeline.Window.sep_of_coord cc0_transform_2 0 1 (fun _ => rfl) (by decide)) (P := 32) (by decide) t : ∀ t : Fin grid0.N, Pipeline.Window.fetchOf grid0 false cc0_transform_2 t = true ↔ t.val % 32 = 0)
/-- Window 3 (operand 4 (%arg3)) is fetched at the points ≡ 0 (mod 32), at any contents of the tables (its index map reads none). -/
theorem fetch0_3 (a : (pcfg0 (F := F)).Adm) : ∀ t : Fin (cfg0 a).N, ((cfg0 a).win 3).fetch t = true ↔ t.val % 32 = 0 :=
  (fun t => Pipeline.Window.fetchOf_reads cc0_transform_3 reads0_3 hreads0_3 0 (by decide) (by decide) (Pipeline.Window.sep_of_coord cc0_transform_3 0 1 (fun _ => rfl) (by decide)) (P := 32) (by decide) t : ∀ t : Fin grid0.N, Pipeline.Window.fetchOf grid0 false cc0_transform_3 t = true ↔ t.val % 32 = 0)
/-- Window 4 (operand 5 (%arg4)) is fetched at the points ≡ 0 (mod 32), at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_reads cc0_transform_4 reads0_4 hreads0_4 0 (by decide) (by decide) (Pipeline.Window.sep_of_coord cc0_transform_4 0 1 (fun _ => rfl) (by decide)) (P := 32) (by decide) t : ∀ t : Fin grid0.N, Pipeline.Window.fetchOf grid0 false cc0_transform_4 t = true ↔ t.val % 32 = 0)
/-- Window 5 (operand 6 (%arg5)) is fetched at the points ≡ 0 (mod 32), at any contents of the tables (its index map reads none). -/
theorem fetch0_5 (a : (pcfg0 (F := F)).Adm) : ∀ t : Fin (cfg0 a).N, ((cfg0 a).win 5).fetch t = true ↔ t.val % 32 = 0 :=
  (fun t => Pipeline.Window.fetchOf_reads cc0_transform_5 reads0_5 hreads0_5 0 (by decide) (by decide) (Pipeline.Window.sep_of_coord cc0_transform_5 0 1 (fun _ => rfl) (by decide)) (P := 32) (by decide) t : ∀ t : Fin grid0.N, Pipeline.Window.fetchOf grid0 false cc0_transform_5 t = true ↔ t.val % 32 = 0)
/-- Window 6 (operand 7 (%arg6)) is fetched at the points ≡ 0 (mod 32), at any contents of the tables (its index map reads none). -/
theorem fetch0_6 (a : (pcfg0 (F := F)).Adm) : ∀ t : Fin (cfg0 a).N, ((cfg0 a).win 6).fetch t = true ↔ t.val % 32 = 0 :=
  (fun t => Pipeline.Window.fetchOf_reads cc0_transform_6 reads0_6 hreads0_6 0 (by decide) (by decide) (Pipeline.Window.sep_of_coord cc0_transform_6 0 1 (fun _ => rfl) (by decide)) (P := 32) (by decide) t : ∀ t : Fin grid0.N, Pipeline.Window.fetchOf grid0 false cc0_transform_6 t = true ↔ t.val % 32 = 0)
/-- Window 7 (result 0 (%1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_int4_swiglu (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6144 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (by decide : main_arg7 ∈ Pipeline.restRefs sig spec0)).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin grid0.N, cond0_0 (grid0.coords t) ↔ t.val % 32 = 0 :=
  (fun t => by
    have ht : t.val < 640 := Nat.lt_of_lt_of_eq t.isLt N_0
    have e0 : (grid0.coords t 0).val = t.val / 32 % 20 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x6144 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3072x512 .i8 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3072x512 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S48x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S48x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S24x512 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S24x512 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x512 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S6144x1024 .bf16 := Memref.whole cc0_scratch0
abbrev scM0_1 : Memref sig .tc .vmem S384x128 .i32 := Memref.whole cc0_scratch1
abbrev scM0_2 : Memref sig .tc .vmem S384x128 .i32 := Memref.whole cc0_scratch2
abbrev scM0_3 : Memref sig .tc .vmem S384x128 .i32 := Memref.whole cc0_scratch3
abbrev scM0_4 : Memref sig .tc .vmem S384x128 .i32 := Memref.whole cc0_scratch4
abbrev scM0_5 : Memref sig .tc .vmem S768x128 .i32 := Memref.whole cc0_scratch5
abbrev scM0_6 : Memref sig .tc .vmem S768x128 .i32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.KernelLoops.lean ====
/- The loops of `Kernel`'s body over the chunks of rows and over the rows of a chunk, as a frame needs them: which
   buffers a trip touches, at some contents. -/
module

public import proofs.«01_k».proof.Proof.KernelSetup

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- A row group times eight, as a word, does not wrap. -/
theorem word8 (v : BitVec 32) (h : v.toNat < 48) : (Scalar.muli v 8#32 : BitVec 32).toNat = v.toNat * 8 := by
  show (v * 8#32).toNat = _
  rw [BitVec.toNat_mul]; simp; omega

/-- A row group below 48 passes check 1: its rows of the tables lie inside them. -/
theorem chk1_of (i : grid0.Coords) (v : BitVec 32) (h : v.toNat < 48) : k0_chk1 i v := by
  unfold k0_chk1
  refine ⟨?_, ?_⟩
  · intro _; show 8 ∣ (Scalar.muli v 8#32 : BitVec 32).toNat
    rw [word8 v h]; exact Dvd.intro_left _ rfl
  · intro _ a
    have e := word8 v h
    unfold k0_off3
    fin_cases a <;> simp [Scalar.indexCast, Idealize.ShloMosaic.Shape.size] at e ⊢ <;> omega

/-- A row group below 48 passes check 2: its rows of the tables lie inside them. -/
theorem chk2_of (i : grid0.Coords) (v : BitVec 32) (h : v.toNat < 48) : k0_chk2 i v := by
  unfold k0_chk2
  refine ⟨?_, ?_⟩
  · intro _; show 8 ∣ (Scalar.muli v 8#32 : BitVec 32).toNat
    rw [word8 v h]; exact Dvd.intro_left _ rfl
  · intro _ a
    have e := word8 v h
    unfold k0_off4
    fin_cases a <;> simp [Scalar.indexCast, Idealize.ShloMosaic.Shape.size] at e ⊢ <;> omega

set_option warn.classDefReducibility false in set_option maxHeartbeats 4000000 in set_option sl_exec.stridedRows true in
/-- The loop that expands one chunk of rows: the row groups and the four tables are read, the expanded scales and zeros are
    at some contents. Every row group read is below 48 (`hX`). -/
@[sl_loop] noncomputable def loopInv_k0_t2 (c : Dev nD) (E : Set ℕ) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x128 .i32) (harg12 : arg12.IsWhole) (arg13 : Memref sig .tc .vmem S384x128 .i32) (harg13 : arg13.IsWhole) (arg14 : Memref sig .tc .vmem S384x128 .i32) (harg14 : arg14.IsWhole) (arg15 : Memref sig .tc .vmem S384x128 .i32) (harg15 : arg15.IsWhole) (arg16 : Memref sig .tc .vmem S768x128 .i32) (harg16 : arg16.IsWhole) (arg17 : Memref sig .tc .vmem S768x128 .i32) (harg17 : arg17.IsWhole) (k0_h1 : k0_cond1 i = 1#1) (k0_t1 : Fin k0_t1_loop.trips) (v370 : BitVec 32)
    (X2 : BufTy.Contents (Elt F) arg2.view.ty) (X12 : BufTy.Contents (Elt F) arg12.view.ty) (X13 : BufTy.Contents (Elt F) arg13.view.ty) (X14 : BufTy.Contents (Elt F) arg14.view.ty) (X15 : BufTy.Contents (Elt F) arg15.view.ty)
    (hX : ∀ (r : LoadRect S6144) (j : r.shape.Idx), BitVec.toNat (View.readAt (Elt F) arg2.view r X2 j : BitVec 32) < 48) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 where
  inv := fun k acc => iprop((arg2.view.loc (c : Thread nD τ) ↦{fullShare.right} X2) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg16.view.loc (c : Thread nD τ) ↦[arg16.view.set]{fullShare} f)) ∗ (∃ f, (arg17.view.loc (c : Thread nD τ) ↦[arg17.view.set]{fullShare} f)))
  step := fun k acc => by
    iintro ⟨H2, H12, H13, H14, H15, ⟨%f16, H16⟩, ⟨%f17, H17⟩⟩
    unfold k0_t2_body
    simp only [k0_part1_eq_skeleton]; unfold k0_part1_skel
    sl_exec (disch := first | exact chk1_of _ _ (hX _ _) | exact chk2_of _ _ (hX _ _))
    sl_step
    isplitl [H2]; · iexact H2
    isplitl [H12]; · iexact H12
    isplitl [H13]; · iexact H13
    isplitl [H14]; · iexact H14
    isplitl [H15]; · iexact H15
    isplitl [H16]; · iexists _; iexact H16
    iexists _; iexact H17

set_option warn.classDefReducibility false in set_option maxHeartbeats 4000000 in
/-- The loop over the chunks of rows: what a chunk reads, and the weights and the expanded rows at some contents. -/
@[sl_loop] noncomputable def loopInv_k0_t1 (c : Dev nD) (E : Set ℕ) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x128 .i32) (harg12 : arg12.IsWhole) (arg13 : Memref sig .tc .vmem S384x128 .i32) (harg13 : arg13.IsWhole) (arg14 : Memref sig .tc .vmem S384x128 .i32) (harg14 : arg14.IsWhole) (arg15 : Memref sig .tc .vmem S384x128 .i32) (harg15 : arg15.IsWhole) (arg16 : Memref sig .tc .vmem S768x128 .i32) (harg16 : arg16.IsWhole) (arg17 : Memref sig .tc .vmem S768x128 .i32) (harg17 : arg17.IsWhole) (k0_h1 : k0_cond1 i = 1#1)
    (X2 : BufTy.Contents (Elt F) arg2.view.ty) (X4 : BufTy.Contents (Elt F) arg4.view.ty) (X5 : BufTy.Contents (Elt F) arg5.view.ty) (X12 : BufTy.Contents (Elt F) arg12.view.ty) (X13 : BufTy.Contents (Elt F) arg13.view.ty) (X14 : BufTy.Contents (Elt F) arg14.view.ty) (X15 : BufTy.Contents (Elt F) arg15.view.ty)
    (hX : ∀ (r : LoadRect S6144) (j : r.shape.Idx), BitVec.toNat (View.readAt (Elt F) arg2.view r X2 j : BitVec 32) < 48) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 where
  inv := fun k acc => iprop((arg2.view.loc (c : Thread nD τ) ↦{fullShare.right} X2) ∗ (arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)))
  step := fun k acc => by
    iintro ⟨H2, H4, H5, H12, H13, H14, H15, ⟨%f11, H11⟩, ⟨%f16, H16⟩, ⟨%f17, H17⟩⟩
    unfold k0_t1_body
    sl_exec
    sl_step
    isplitl [H2]; · iexact H2
    isplitl [H4]; · iexact H4
    isplitl [H5]; · iexact H5
    isplitl [H12]; · iexact H12
    isplitl [H13]; · iexact H13
    isplitl [H14]; · iexact H14
    isplitl [H15]; · iexact H15
    isplitl [H11]; · iexists _; iexact H11
    isplitl [H16]; · iexists _; iexact H16
    iexists _; iexact H17

end Cert.Kernel.Gen

end
-- ==== Proof.KernelRunA.lean ====
/- The body's run in case A of `Kernel`'s frame. -/
module

public import proofs.«01_k».proof.Proof.KernelLoops

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 8000000 in set_option sl_exec.stridedRows true in
/-- The body's triple IN CASE A (the points 0, 32, …, 608, which dequantise a block column): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x128 .i32) (harg12 : arg12.IsWhole) (arg13 : Memref sig .tc .vmem S384x128 .i32) (harg13 : arg13.IsWhole) (arg14 : Memref sig .tc .vmem S384x128 .i32) (harg14 : arg14.IsWhole) (arg15 : Memref sig .tc .vmem S384x128 .i32) (harg15 : arg15.IsWhole) (arg16 : Memref sig .tc .vmem S768x128 .i32) (harg16 : arg16.IsWhole) (arg17 : Memref sig .tc .vmem S768x128 .i32) (harg17 : arg17.IsWhole) (hc0 : cond0_0 i)
    (x0 : Vec F S512x6144 .bf16) (x1 : Vec F S3072x512 .i8) (x2 : Vec F S3072x512 .i8) (x3 : Vec F S48x512 .bf16) (x4 : Vec F S48x512 .bf16) (x5 : Vec F S24x512 .i8) (x6 : Vec F S24x512 .i8) (xt0 : TbBuf0 (F := F) c tbM0_0)
    (hX : ∀ (r : LoadRect S6144) (j : r.shape.Idx), BitVec.toNat (View.readAt (Elt F) (tbM0_0).view r xt0 j : BitVec 32) < 48) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_int4_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_int4_swiglu_eq_skeleton]; unfold cc0_int4_swiglu_skel
    simp only [k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexact HT0

end Cert.Kernel.Gen

end
-- ==== Proof.KernelRunB.lean ====
/- The body's run in case B of `Kernel`'s frame. -/
module

public import proofs.«01_k».proof.Proof.KernelRunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

-- (the run's proof term is large: checking it walks past the default budget)
set_option maxHeartbeats 1000000 in set_option sl_exec.stridedRows true in
/-- The body's triple IN CASE B (the points that find the weights of their block column in scratch): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x128 .i32) (harg12 : arg12.IsWhole) (arg13 : Memref sig .tc .vmem S384x128 .i32) (harg13 : arg13.IsWhole) (arg14 : Memref sig .tc .vmem S384x128 .i32) (harg14 : arg14.IsWhole) (arg15 : Memref sig .tc .vmem S384x128 .i32) (harg15 : arg15.IsWhole) (arg16 : Memref sig .tc .vmem S768x128 .i32) (harg16 : arg16.IsWhole) (arg17 : Memref sig .tc .vmem S768x128 .i32) (harg17 : arg17.IsWhole) (hc0 : ¬cond0_0 i)
    (x0 : Vec F S512x6144 .bf16) (x1 : Vec F S3072x512 .i8) (x2 : Vec F S3072x512 .i8) (x3 : Vec F S48x512 .bf16) (x4 : Vec F S48x512 .bf16) (x5 : Vec F S24x512 .i8) (x6 : Vec F S24x512 .i8) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_int4_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_int4_swiglu_eq_skeleton]; unfold cc0_int4_swiglu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexact HT0

end Cert.Kernel.Gen

end
-- ==== Proof.KernelFrame.lean ====
/- The frame of `Kernel`: the program runs to the end and leaves its arguments as they were. -/
module

public import proofs.«01_k».proof.Proof.KernelRunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-- Every row group the prefetched table holds is below 48, read through any rectangle of the table. -/
abbrev Groups : Prop := ∀ (r : LoadRect S6144) (j : r.shape.Idx), BitVec.toNat (View.readAt (Elt F) (tbM0_0).view r (tbl m 0) j : BitVec 32) < 48

/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d))

set_option maxHeartbeats 2400000 in
/-- The body at any point: the inputs' blocks are as fetched, the scratch buffers at some contents before and after. -/
theorem sound_body (hO : Ok m) (hX : Groups m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  have hN : t.val < 640 := lt_of_lt_of_eq t.isLt (show (cfgM m hO).N = 640 from N_0)
  by_cases h0 : t.val % 32 = 0
  · iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0) hX) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HT0]; · iexact HT0
    iintro ⟨H0, H1, H2, H3, H4, H5, H6, H7, HS0, HS1, HS2, HS3, HS4, HS5, HS6, HT0⟩
    isplitl [HS0 HS1 HS2 HS3 HS4 HS5 HS6 Hg HT0]
    · isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HT0]; · iexact HT0
    iintro ⟨H0, H1, H2, H3, H4, H5, H6, H7, HS0, HS1, HS2, HS3, HS4, HS5, HS6, HT0⟩
    isplitl [HS0 HS1 HS2 HS3 HS4 HS5 HS6 Hg HT0]
    · isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hX : Groups m) (c : Dev nD) : BodyObligation (dats (F := F) m hO 0 c) (defs₀ (F := F)) Variants.none () Set.univ forgets0 := fun t => by
  rw [bigSep_W0, bigSep_W0, defs₀_row m hO]
  exact triple_restated (sound_body m hO hX c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hX : Groups m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hX c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main (hO : Ok m) (hX : Groups m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hX)

/-- The argument arrays end unchanged. -/
theorem unchanged (hO : Ok m) (hX : Groups m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO hX)

/-- The program runs to the end, leaves its arguments as they were, and every semaphore counter ends at zero, when every
    row group lies in the table. -/
theorem frame (hO : Ok m) (hX : Groups m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hX) ((θ_run defs _ _).mono (fun _ h => h.2) (run_main_quiescent m ρ hO hX))

end Cert.Kernel.Gen

end
-- ==== Proof.KernelIdealSetup.lean ====
/- What the runs of `KernelIdeal`'s body share: the points at which each window is fetched and written back, what the region
   finds in memory (the host reshape of the tokens comes before it), the prefetched row groups, the blocks of the windows,
   the points at which the body dequantises a block column, and the scratch buffers. -/
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 0 (fun _ => rfl) (by decide)) (P := 1) (by decide) t).mpr (Nat.mod_one _) : ∀ t : Fin grid0.N, Pipeline.Window.fetchOf grid0 false cc0_transform_0 t = true)
/-- Window 1 (operand 2 (%arg1)) is fetched at the points ≡ 0 (mod 32), at any contents of the tables (its index map reads none). -/
theorem fetch0_1 (a : (pcfg0 (F := F)).Adm) : ∀ t : Fin (cfg0 a).N, ((cfg0 a).win 1).fetch t = true ↔ t.val % 32 = 0 :=
  (fun t => Pipeline.Window.fetchOf_reads cc0_transform_1 reads0_1 hreads0_1 0 (by decide) (by decide) (Pipeline.Window.sep_of_coord cc0_transform_1 0 1 (fun _ => rfl) (by decide)) (P := 32) (by decide) t : ∀ t : Fin grid0.N, Pipeline.Window.fetchOf grid0 false cc0_transform_1 t = true ↔ t.val % 32 = 0)
/-- Window 2 (operand 3 (%arg2)) is fetched at the points ≡ 0 (mod 32), at any contents of the tables (its index map reads none). -/
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 0 (by decide) (by decide) (Pipeline.Window.sep_of_coord cc0_transform_2 0 1 (fun _ => rfl) (by decide)) (P := 32) (by decide) t : ∀ t : Fin grid0.N, Pipeline.Window.fetchOf grid0 false cc0_transform_2 t = true ↔ t.val % 32 = 0)
/-- Window 3 (operand 4 (%arg3)) is fetched at the points ≡ 0 (mod 32), at any contents of the tables (its index map reads none). -/
theorem fetch0_3 (a : (pcfg0 (F := F)).Adm) : ∀ t : Fin (cfg0 a).N, ((cfg0 a).win 3).fetch t = true ↔ t.val % 32 = 0 :=
  (fun t => Pipeline.Window.fetchOf_reads cc0_transform_3 reads0_3 hreads0_3 0 (by decide) (by decide) (Pipeline.Window.sep_of_coord cc0_transform_3 0 1 (fun _ => rfl) (by decide)) (P := 32) (by decide) t : ∀ t : Fin grid0.N, Pipeline.Window.fetchOf grid0 false cc0_transform_3 t = true ↔ t.val % 32 = 0)
/-- Window 4 (operand 5 (%arg4)) is fetched at the points ≡ 0 (mod 32), at any contents of the tables (its index map reads none). -/
theorem fetch0_4 (a : (pcfg0 (F := F)).Adm) : ∀ t : Fin (cfg0 a).N, ((cfg0 a).win 4).fetch t = true ↔ t.val % 32 = 0 :=
  (fun t => Pipeline.Window.fetchOf_reads cc0_transform_4 reads0_4 hreads0_4 0 (by decide) (by decide) (Pipeline.Window.sep_of_coord cc0_transform_4 0 1 (fun _ => rfl) (by decide)) (P := 32) (by decide) t : ∀ t : Fin grid0.N, Pipeline.Window.fetchOf grid0 false cc0_transform_4 t = true ↔ t.val % 32 = 0)
/-- Window 5 (operand 6 (%arg5)) is fetched at the points ≡ 0 (mod 32), at any contents of the tables (its index map reads none). -/
theorem fetch0_5 (a : (pcfg0 (F := F)).Adm) : ∀ t : Fin (cfg0 a).N, ((cfg0 a).win 5).fetch t = true ↔ t.val % 32 = 0 :=
  (fun t => Pipeline.Window.fetchOf_reads cc0_transform_5 reads0_5 hreads0_5 0 (by decide) (by decide) (Pipeline.Window.sep_of_coord cc0_transform_5 0 1 (fun _ => rfl) (by decide)) (P := 32) (by decide) t : ∀ t : Fin grid0.N, Pipeline.Window.fetchOf grid0 false cc0_transform_5 t = true ↔ t.val % 32 = 0)
/-- Window 6 (operand 7 (%arg6)) is fetched at the points ≡ 0 (mod 32), at any contents of the tables (its index map reads none). -/
theorem fetch0_6 (a : (pcfg0 (F := F)).Adm) : ∀ t : Fin (cfg0 a).N, ((cfg0 a).win 6).fetch t = true ↔ t.val % 32 = 0 :=
  (fun t => Pipeline.Window.fetchOf_reads cc0_transform_6 reads0_6 hreads0_6 0 (by decide) (by decide) (Pipeline.Window.sep_of_coord cc0_transform_6 0 1 (fun _ => rfl) (by decide)) (P := 32) (by decide) t : ∀ t : Fin grid0.N, Pipeline.Window.fetchOf grid0 false cc0_transform_6 t = true ↔ t.val % 32 = 0)
/-- Window 7 (result 0 (%1)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 1 (by decide) (by decide) (Pipeline.Window.sep_of_coord cc0_transform_7 1 0 (fun _ => rfl) (by decide)) (P := 1) (m := 0) (by decide) rfl t).mpr (Nat.mod_one _) : ∀ t : Fin grid0.N, Pipeline.Window.flushOf grid0 true cc0_transform_7 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_int4_swiglu (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _)

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S6144 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0)).trans (V_main_arg0 m c),
      (Pipeline.RDat.FramePost.arr_in h c 1 rfl).trans ((hA c 1).trans (V_main_arg1 m c)),
      (Pipeline.RDat.FramePost.arr_in h c 2 rfl).trans ((hA c 2).trans (V_main_arg2 m c)),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      ((h c).2 main_arg7 (by decide : main_arg7 ∈ Pipeline.restRefs sig spec0)).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 32) — by arithmetic of the point. -/
theorem hcond0_0 : ∀ t : Fin grid0.N, cond0_0 (grid0.coords t) ↔ t.val % 32 = 0 :=
  (fun t => by
    have ht : t.val < 640 := Nat.lt_of_lt_of_eq t.isLt N_0
    have e0 : (grid0.coords t 0).val = t.val / 32 % 20 := Pipeline.Grid.coords_val t 0 (by decide) rfl
    have e1 : (grid0.coords t 1).val = t.val / 1 % 32 := Pipeline.Grid.coords_val t 1 (by decide) rfl
    simp only [cond0_0, k0_cond1, e0, e1]
    word_cmp
   : ∀ t : Fin grid0.N, cond0_0 (grid0.coords t) ↔ t.val % 32 = 0)

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x6144 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S3072x512 .i8 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3072x512 .i8 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S48x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S48x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S24x512 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S24x512 .i8 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S512x512 .bf16 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S6144x1024 .bf16 := Memref.whole cc0_scratch0
abbrev scM0_1 : Memref sig .tc .vmem S384x2x128 .bf16 := Memref.whole cc0_scratch1
abbrev scM0_2 : Memref sig .tc .vmem S384x2x128 .bf16 := Memref.whole cc0_scratch2
abbrev scM0_3 : Memref sig .tc .vmem S384x128 .i32 := Memref.whole cc0_scratch3
abbrev scM0_4 : Memref sig .tc .vmem S384x128 .i32 := Memref.whole cc0_scratch4
abbrev scM0_5 : Memref sig .tc .vmem S768x2x128 .bf16 := Memref.whole cc0_scratch5
abbrev scM0_6 : Memref sig .tc .vmem S768x128 .i32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Gen

end
-- ==== Proof.KernelIdealChecks.lean ====
/- The checks of the row groups read by `KernelIdeal`'s body: a row group below 48 passes them. -/
module

public import proofs.«01_k».proof.Proof.KernelIdealSetup

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- A row group times eight, as a word, does not wrap. -/
theorem word8 (v : BitVec 32) (h : v.toNat < 48) : (Scalar.muli v 8#32 : BitVec 32).toNat = v.toNat * 8 := by
  show (v * 8#32).toNat = _
  rw [BitVec.toNat_mul]; simp; omega

/-- A row group below 48 passes check 1: its rows of the tables lie inside them. -/
theorem chk1_of (i : grid0.Coords) (v : BitVec 32) (h : v.toNat < 48) : k0_chk1 i v := by
  unfold k0_chk1
  refine ⟨?_, ?_, ?_⟩
  · intro _; show 8 ∣ (Scalar.muli v 8#32 : BitVec 32).toNat
    rw [word8 v h]; exact Dvd.intro_left _ rfl
  · intro _ a
    have e := word8 v h
    unfold k0_off3
    fin_cases a <;> simp [Scalar.indexCast, Idealize.ShloMosaic.Shape.size] at e ⊢ <;> omega
  · intro _ a
    have e := word8 v h
    unfold k0_off6
    fin_cases a <;> simp [Scalar.indexCast, Idealize.ShloMosaic.Shape.size] at e ⊢ <;> omega

/-- A row group below 48 passes check 2: its rows of the tables lie inside them. -/
theorem chk2_of (i : grid0.Coords) (v : BitVec 32) (h : v.toNat < 48) : k0_chk2 i v := by
  unfold k0_chk2
  refine ⟨?_, ?_, ?_⟩
  · intro _; show 8 ∣ (Scalar.muli v 8#32 : BitVec 32).toNat
    rw [word8 v h]; exact Dvd.intro_left _ rfl
  · intro _ a
    have e := word8 v h
    unfold k0_off4
    fin_cases a <;> simp [Scalar.indexCast, Idealize.ShloMosaic.Shape.size] at e ⊢ <;> omega
  · intro _ a
    have e := word8 v h
    unfold k0_off7
    fin_cases a <;> simp [Scalar.indexCast, Idealize.ShloMosaic.Shape.size] at e ⊢ <;> omega

end Cert.KernelIdeal.Gen

end
-- ==== Proof.KernelIdealLoops.lean ====
/- The loops of `KernelIdeal`'s body over the chunks of rows and over the rows of a chunk, as a frame needs them: which
   buffers a trip touches, at some contents. -/
module

public import proofs.«01_k».proof.Proof.KernelIdealChecks

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option warn.classDefReducibility false in set_option maxHeartbeats 4000000 in set_option sl_exec.stridedRows true in
/-- The loop that expands one chunk of rows: the row groups and the four tables are read, the expanded scales and zeros are
    at some contents. Every row group read is below 48 (`hX`). -/
@[sl_loop] noncomputable def loopInv_k0_t2 (c : Dev nD) (E : Set ℕ) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1) (k0_t1 : Fin k0_t1_loop.trips) (v370 : BitVec 32)
    (X2 : BufTy.Contents (Elt F) arg2.view.ty) (X12 : BufTy.Contents (Elt F) arg12.view.ty) (X13 : BufTy.Contents (Elt F) arg13.view.ty) (X14 : BufTy.Contents (Elt F) arg14.view.ty) (X15 : BufTy.Contents (Elt F) arg15.view.ty)
    (hX : ∀ (r : LoadRect S6144) (j : r.shape.Idx), BitVec.toNat (View.readAt (Elt F) arg2.view r X2 j : BitVec 32) < 48) :
    LoopInvTy_k0_t2 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 where
  inv := fun k acc => iprop((arg2.view.loc (c : Thread nD τ) ↦{fullShare.right} X2) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg16.view.loc (c : Thread nD τ) ↦[arg16.view.set]{fullShare} f)) ∗ (∃ f, (arg17.view.loc (c : Thread nD τ) ↦[arg17.view.set]{fullShare} f)))
  step := fun k acc => by
    iintro ⟨H2, H12, H13, H14, H15, ⟨%f16, H16⟩, ⟨%f17, H17⟩⟩
    unfold k0_t2_body
    simp only [k0_part1_eq_skeleton]; unfold k0_part1_skel
    sl_exec (disch := first | exact chk1_of _ _ (hX _ _) | exact chk2_of _ _ (hX _ _))
    sl_step
    isplitl [H2]; · iexact H2
    isplitl [H12]; · iexact H12
    isplitl [H13]; · iexact H13
    isplitl [H14]; · iexact H14
    isplitl [H15]; · iexact H15
    isplitl [H16]; · iexists _; iexact H16
    iexists _; iexact H17

set_option warn.classDefReducibility false in set_option maxHeartbeats 4000000 in
/-- The loop over the chunks of rows: what a chunk reads, and the weights and the expanded rows at some contents. -/
@[sl_loop] noncomputable def loopInv_k0_t1 (c : Dev nD) (E : Set ℕ) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1)
    (X2 : BufTy.Contents (Elt F) arg2.view.ty) (X4 : BufTy.Contents (Elt F) arg4.view.ty) (X5 : BufTy.Contents (Elt F) arg5.view.ty) (X12 : BufTy.Contents (Elt F) arg12.view.ty) (X13 : BufTy.Contents (Elt F) arg13.view.ty) (X14 : BufTy.Contents (Elt F) arg14.view.ty) (X15 : BufTy.Contents (Elt F) arg15.view.ty)
    (hX : ∀ (r : LoadRect S6144) (j : r.shape.Idx), BitVec.toNat (View.readAt (Elt F) arg2.view r X2 j : BitVec 32) < 48) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 where
  inv := fun k acc => iprop((arg2.view.loc (c : Thread nD τ) ↦{fullShare.right} X2) ∗ (arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg11.view.loc (c : Thread nD τ) ↦[arg11.view.set]{fullShare} f)) ∗ (∃ f, (arg16.view.loc (c : Thread nD τ) ↦[arg16.view.set]{fullShare} f)) ∗ (∃ f, (arg17.view.loc (c : Thread nD τ) ↦[arg17.view.set]{fullShare} f)))
  step := fun k acc => by
    iintro ⟨H2, H4, H5, H12, H13, H14, H15, ⟨%f11, H11⟩, ⟨%f16, H16⟩, ⟨%f17, H17⟩⟩
    unfold k0_t1_body
    sl_exec
    sl_step
    isplitl [H2]; · iexact H2
    isplitl [H4]; · iexact H4
    isplitl [H5]; · iexact H5
    isplitl [H12]; · iexact H12
    isplitl [H13]; · iexact H13
    isplitl [H14]; · iexact H14
    isplitl [H15]; · iexact H15
    isplitl [H11]; · iexists _; iexact H11
    isplitl [H16]; · iexists _; iexact H16
    iexists _; iexact H17

end Cert.KernelIdeal.Gen

end
-- ==== Proof.KernelIdealRunA.lean ====
/- The body's run in case A of `KernelIdeal`'s frame. -/
module

public import proofs.«01_k».proof.Proof.KernelIdealLoops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 8000000 in set_option sl_exec.stridedRows true in
/-- The body's triple IN CASE A (the points 0, 32, …, 608, which dequantise a block column): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (hc0 : cond0_0 i)
    (x0 : Vec F S512x6144 .bf16) (x1 : Vec F S3072x512 .i8) (x2 : Vec F S3072x512 .i8) (x3 : Vec F S48x512 .bf16) (x4 : Vec F S48x512 .bf16) (x5 : Vec F S24x512 .i8) (x6 : Vec F S24x512 .i8) (xt0 : TbBuf0 (F := F) c tbM0_0)
    (hX : ∀ (r : LoadRect S6144) (j : r.shape.Idx), BitVec.toNat (View.readAt (Elt F) (tbM0_0).view r xt0 j : BitVec 32) < 48) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_int4_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_int4_swiglu_eq_skeleton]; unfold cc0_int4_swiglu_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexact HT0

end Cert.KernelIdeal.Gen

end
-- ==== Proof.KernelIdealRunB.lean ====
/- The body's run in case B of `KernelIdeal`'s frame. -/
module

public import proofs.«01_k».proof.Proof.KernelIdealRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in set_option sl_exec.stridedRows true in
/-- The body's triple IN CASE B (the points that find the weights of their block column in scratch): on whole staging memrefs — the inputs' at their contents,
    the FORGOTTEN outputs' (7) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (hc0 : ¬cond0_0 i)
    (x0 : Vec F S512x6144 .bf16) (x1 : Vec F S3072x512 .i8) (x2 : Vec F S3072x512 .i8) (x3 : Vec F S48x512 .bf16) (x4 : Vec F S48x512 .bf16) (x5 : Vec F S24x512 .i8) (x6 : Vec F S24x512 .i8) (xt0 : TbBuf0 (F := F) c tbM0_0) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := F)) Variants.none c none) E (cc0_int4_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_int4_swiglu_eq_skeleton]; unfold cc0_int4_swiglu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexact HT0

end Cert.KernelIdeal.Gen

end
-- ==== Proof.KernelIdealFrame.lean ====
/- The frame of `KernelIdeal`: the program runs to the end and leaves its arguments as they were. -/
module

public import proofs.«01_k».proof.Proof.KernelIdealRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Every row group the prefetched table holds is below 48, read through any rectangle of the table. -/
abbrev Groups : Prop := ∀ (r : LoadRect S6144) (j : r.shape.Idx), BitVec.toNat (View.readAt (Elt F) (tbM0_0).view r (tbl m 0) j : BitVec 32) < 48

/-! ## The pipeline's proof data -/

/-- The output windows this certificate FORGETS (7): nothing reads what the kernel leaves in them, so nothing
    of it is named (Lib/Pipeline/Dat.lean `Dat.toRForget`). -/
def forgets0 : Fin 8 → Bool := fun w => w.val == 7

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d))

set_option maxHeartbeats 2400000 in
/-- The body at any point: the inputs' blocks are as fetched, the scratch buffers at some contents before and after. -/
theorem sound_body (hO : Ok m) (hX : Groups m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq, PhiA0_eq]
  have hN : t.val < 640 := lt_of_lt_of_eq t.isLt (show (cfgM m hO).N = 640 from N_0)
  by_cases h0 : t.val % 32 = 0
  · iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0) hX) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HT0]; · iexact HT0
    iintro ⟨H0, H1, H2, H3, H4, H5, H6, H7, HS0, HS1, HS2, HS3, HS4, HS5, HS6, HT0⟩
    isplitl [HS0 HS1 HS2 HS3 HS4 HS5 HS6 Hg HT0]
    · isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨⟨HS0, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_B c (grid0.coords t) _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (tbl m 0)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HT0]; · iexact HT0
    iintro ⟨H0, H1, H2, H3, H4, H5, H6, H7, HS0, HS1, HS2, HS3, HS4, HS5, HS6, HT0⟩
    isplitl [HS0 HS1 HS2 HS3 HS4 HS5 HS6 Hg HT0]
    · isplitl [HS0 HS1 HS2 HS3 HS4 HS5 HS6 Hg]
      · isplitl [HS0 HS1 HS2 HS3 HS4 HS5 HS6]
        · isplitl [HS0]
          · iexact HS0
          isplitl [HS1]
          · iexact HS1
          isplitl [HS2]
          · iexact HS2
          isplitl [HS3]
          · iexact HS3
          isplitl [HS4]
          · iexact HS4
          isplitl [HS5]
          · iexact HS5
          iexact HS6
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hX : Groups m) (c : Dev nD) : BodyObligation (dats (F := F) m hO 0 c) (defs₀ (F := F)) Variants.none () Set.univ forgets0 := fun t => by
  rw [bigSep_W0, bigSep_W0, defs₀_row m hO]
  exact triple_restated (sound_body m hO hX c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) (hX : Groups m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO hX c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (window 7) (Lib/Pipeline/Frame.lean `RDat.FramePost` over the proof data with those windows
    forgotten, Dat.lean `Dat.toRForget`), and every other unscoped buffer at its region-entry contents. -/
theorem run_main (hO : Ok m) (hX : Groups m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO hX)

/-- The argument arrays end unchanged. -/
theorem unchanged (hO : Ok m) (hX : Groups m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (fun c => (dats m hO 0 c).toRForget forgets0) (A_eq m hO) (run_main m ρ hO hX)

/-- The program runs to the end, leaves its arguments as they were, and every semaphore counter ends at zero, when every
    row group lies in the table. -/
theorem frame (hO : Ok m) (hX : Groups m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hX) ((θ_run defs _ _).mono (fun _ h => h.2) (run_main_quiescent m ρ hO hX))

end Cert.KernelIdeal.Gen

end
-- ==== Proof.Groups.lean ====
/- What the precondition says of the row groups: each, read as a natural number, is below 48. -/
module

public import proofs.«01_k».proof.Defs
public import proofs.«01_k».proof.Proof.Gen.Pre_groups_exist
public import proofs.«01_k».proof.Proof.KernelFrame
public import proofs.«01_k».proof.Proof.KernelIdealFrame

@[expose] public section

noncomputable section

namespace Cert.Proof

open Idealize.ShloMosaic Idealize.ShloMosaic.TcCoe Idealize.SL.Sem

/-- A word that is at least 0 and below 48 as a signed number is below 48 as a natural number. -/
theorem toNat_lt_of_between (v : BitVec 32) (h : (BitVec.ofBool (BitVec.sle 0#32 v) &&& BitVec.ofBool (BitVec.slt v 48#32)) = 1#1) : v.toNat < 48 := by
  have h2 : (BitVec.sle 0#32 v && BitVec.slt v 48#32) = true := by
    revert h
    cases BitVec.sle 0#32 v <;> cases BitVec.slt v 48#32 <;> decide
  simp only [Bool.and_eq_true, BitVec.sle_eq_decide, BitVec.slt_eq_decide, decide_eq_true_eq] at h2
  obtain ⟨h0, h1⟩ := h2
  have e0 : (0#32 : BitVec 32).toInt = 0 := by decide
  have e1 : (48#32 : BitVec 32).toInt = 48 := by decide
  rw [e0] at h0
  rw [e1] at h1
  rw [BitVec.toInt_eq_toNat_cond] at h0 h1
  have := v.isLt
  split at h0 <;> split at h1 <;> omega

/-- The predicate's value being all ones, every row group is below 48. -/
theorem groups_lt {F : FTy → Type} [FloatOps F] (x0 : FVec F Cert.Pre_groups_exist.S16384x1x6144 .bf16)
    (x1 x2 : IVec Cert.Pre_groups_exist.S3072x10240 8) (x3 x4 : FVec F Cert.Pre_groups_exist.S48x10240 .bf16)
    (x5 x6 : IVec Cert.Pre_groups_exist.S24x10240 8) (g : IVec Cert.Pre_groups_exist.S6144 32)
    (h : Cert.Pre_groups_exist.fn (F := F) x0 x1 x2 x3 x4 x5 x6 g = fun _ => 1#1) (j : Cert.Pre_groups_exist.S6144.Idx) :
    BitVec.toNat (g j : BitVec 32) < 48 :=
  toNat_lt_of_between _ (congrFun h j)

/-- Under the precondition, every row group `Kernel` reads is below 48. -/
theorem groups_Kernel (m : (ℓ : Loc Cert.Kernel.nD Cert.Kernel.τ Cert.Kernel.sig) → Buf (Elt Bits) ℓ) (h : Cert.Pre_Kernel m) :
    Cert.Kernel.Gen.Groups m := by
  intro r j
  have := groups_lt _ _ _ _ _ _ _ _ (h 0) (r.idx j)
  have e : Cert.Kernel.Gen.tbl m 0 = m (((0 : Dev Cert.Kernel.nD) : Thread Cert.Kernel.nD Cert.Kernel.τ).loc Cert.Kernel.main_arg7) := Cert.Kernel.Gen.V_main_arg7 m 0
  exact (congrArg BitVec.toNat (congrFun e (r.idx j))).trans_lt this

/-- Under the precondition, every row group `KernelIdeal` reads is below 48. -/
theorem groups_KernelIdeal (m : (ℓ : Loc Cert.KernelIdeal.nD Cert.KernelIdeal.τ Cert.KernelIdeal.sig) → Buf (Elt Ideal) ℓ) (h : Cert.Pre_KernelIdeal m) :
    Cert.KernelIdeal.Gen.Groups m := by
  intro r j
  have := groups_lt _ _ _ _ _ _ _ _ (h 0) (r.idx j)
  have e : Cert.KernelIdeal.Gen.tbl m 0 = m (((0 : Dev Cert.KernelIdeal.nD) : Thread Cert.KernelIdeal.nD Cert.KernelIdeal.τ).loc Cert.KernelIdeal.main_arg7) := Cert.KernelIdeal.Gen.V_main_arg7 m 0
  exact (congrArg BitVec.toNat (congrFun e (r.idx j))).trans_lt this

end Cert.Proof

end
-- ==== Proof.Reference.lean ====
/- What the reference leaves in memory. -/
module

public import proofs.«01_k».proof.Proof.Gen.ReferenceIdeal.Run
public import proofs.«01_k».proof.Proof.Gen.ReferenceIdeal.Read

@[expose] public section

end
-- ==== Proof.KernelIdealOffsets.lean ====
/- Where `KernelIdeal`'s loops read and write: every computed offset in closed form. -/
module

public import proofs.«01_k».proof.Proof.KernelIdealChecks

@[expose] public section

set_option maxRecDepth 16384

noncomputable section

namespace Cert.KernelIdeal.Gen

open Idealize.ShloMosaic

/-- Where the groups of the even rows are read. -/
theorem off1_eq : ∀ (t : Fin k0_t1_loop.trips) (i : Fin k0_t2_loop.trips), k0_off1 t i = ![192 * t.val + 2 * i.val] := by
  decide +kernel
/-- Where the groups of the odd rows are read. -/
theorem off2_eq : ∀ (t : Fin k0_t1_loop.trips) (i : Fin k0_t2_loop.trips), k0_off2 t i = ![192 * t.val + 2 * i.val + 1] := by
  decide +kernel
/-- Where an expanded scale row is stored. -/
theorem off5_eq : ∀ (i : Fin k0_t2_loop.trips), k0_off5 i = ![i.val / 8 * 64 + i.val % 8, 0, 0] := by
  decide +kernel
/-- Where an expanded zero row is stored. -/
theorem off8_eq : ∀ (i : Fin k0_t2_loop.trips), k0_off8 i = ![i.val / 8 * 64 + i.val % 8, 0] := by
  decide +kernel
/-- Where a block of packed codes is read. -/
theorem off9_eq : ∀ (t : Fin k0_t1_loop.trips) (b : Fin k0_t3_loop.trips), k0_off9 t b = ![96 * t.val + 32 * b.val, 0] := by
  decide +kernel
/-- Where a block of packed codes is read. -/
theorem off13_eq : ∀ (t : Fin k0_t1_loop.trips) (b : Fin k0_t3_loop.trips), k0_off13 t b = ![96 * t.val + 32 * b.val, 128] := by
  decide +kernel
/-- Where a block of packed codes is read. -/
theorem off15_eq : ∀ (t : Fin k0_t1_loop.trips) (b : Fin k0_t3_loop.trips), k0_off15 t b = ![96 * t.val + 32 * b.val, 256] := by
  decide +kernel
/-- Where a block of packed codes is read. -/
theorem off17_eq : ∀ (t : Fin k0_t1_loop.trips) (b : Fin k0_t3_loop.trips), k0_off17 t b = ![96 * t.val + 32 * b.val, 384] := by
  decide +kernel
/-- Where a band of 8 rows reads or stores. -/
theorem off10_eq : ∀ (b : Fin k0_t3_loop.trips) (q : Fin 4) (cc : Fin 8),
    k0_off10 b (BitVec.ofNat 32 q.val) (BitVec.ofNat 32 cc.val) = ![(4 * b.val + q.val) * 64 + cc.val * 8, 0] := by
  decide +kernel
/-- Where a band of 8 rows reads or stores. -/
theorem off11_eq : ∀ (b : Fin k0_t3_loop.trips) (q : Fin 4) (cc : Fin 8),
    k0_off11 b (BitVec.ofNat 32 q.val) (BitVec.ofNat 32 cc.val) = ![(4 * b.val + q.val) * 64 + cc.val * 8, 0, 0] := by
  decide +kernel
/-- Where a band of 8 rows reads or stores. -/
theorem off12_eq : ∀ (t : Fin k0_t1_loop.trips) (b : Fin k0_t3_loop.trips) (q : Fin 4),
    k0_off12 t b (BitVec.ofNat 32 (16 * q.val)) = ![192 * t.val + 64 * b.val + 16 * q.val, 0] := by
  decide +kernel
/-- Where a band of 8 rows reads or stores. -/
theorem off14_eq : ∀ (t : Fin k0_t1_loop.trips) (b : Fin k0_t3_loop.trips) (q : Fin 4),
    k0_off14 t b (BitVec.ofNat 32 (16 * q.val)) = ![192 * t.val + 64 * b.val + 16 * q.val, 128] := by
  decide +kernel
/-- Where a band of 8 rows reads or stores. -/
theorem off16_eq : ∀ (t : Fin k0_t1_loop.trips) (b : Fin k0_t3_loop.trips) (q : Fin 4),
    k0_off16 t b (BitVec.ofNat 32 (16 * q.val)) = ![192 * t.val + 64 * b.val + 16 * q.val, 256] := by
  decide +kernel
/-- Where a band of 8 rows reads or stores. -/
theorem off18_eq : ∀ (t : Fin k0_t1_loop.trips) (b : Fin k0_t3_loop.trips) (q : Fin 4),
    k0_off18 t b (BitVec.ofNat 32 (16 * q.val)) = ![192 * t.val + 64 * b.val + 16 * q.val, 384] := by
  decide +kernel
/-- Where a band of 8 rows reads or stores. -/
theorem off19_eq : ∀ (t : Fin k0_t1_loop.trips) (b : Fin k0_t3_loop.trips) (q : Fin 4),
    k0_off19 t b (BitVec.ofNat 32 (16 * q.val)) = ![192 * t.val + 64 * b.val + 16 * q.val, 512] := by
  decide +kernel
/-- Where a band of 8 rows reads or stores. -/
theorem off20_eq : ∀ (t : Fin k0_t1_loop.trips) (b : Fin k0_t3_loop.trips) (q : Fin 4),
    k0_off20 t b (BitVec.ofNat 32 (16 * q.val)) = ![192 * t.val + 64 * b.val + 16 * q.val, 640] := by
  decide +kernel
/-- Where a band of 8 rows reads or stores. -/
theorem off21_eq : ∀ (t : Fin k0_t1_loop.trips) (b : Fin k0_t3_loop.trips) (q : Fin 4),
    k0_off21 t b (BitVec.ofNat 32 (16 * q.val)) = ![192 * t.val + 64 * b.val + 16 * q.val, 768] := by
  decide +kernel
/-- Where a band of 8 rows reads or stores. -/
theorem off22_eq : ∀ (t : Fin k0_t1_loop.trips) (b : Fin k0_t3_loop.trips) (q : Fin 4),
    k0_off22 t b (BitVec.ofNat 32 (16 * q.val)) = ![192 * t.val + 64 * b.val + 16 * q.val, 896] := by
  decide +kernel

end Cert.KernelIdeal.Gen

end
-- ==== Proof.KernelIdealBand.lean ====
/- What `KernelIdeal`'s dequantization of one band of rows computes, entry by entry. -/
module

public import proofs.«01_k».proof.Proof.KernelIdealOffsets
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The entry of a two-axis array at two naturals (each reduced into its range). -/
def at2 {n m : Nat} [NeZero n] [NeZero m] {α : Type} (v : (⟨2, ![n, m]⟩ : Shape).Idx → α) (a b : Nat) : α :=
  v (ix2 (Fin.ofNat n a) (Fin.ofNat m b))

/-- The entry of a three-axis array at three naturals (each reduced into its range). -/
def at3 {n m k : Nat} [NeZero n] [NeZero m] [NeZero k] {α : Type} (v : (⟨3, ![n, m, k]⟩ : Shape).Idx → α) (a b c : Nat) : α :=
  v (ix3 (Fin.ofNat n a) (Fin.ofNat m b) (Fin.ofNat k c))

/-- An entry read at an index is the entry at the index's two coordinates. -/
theorem at2_of {n m : Nat} [NeZero n] [NeZero m] {α : Type} (v : (⟨2, ![n, m]⟩ : Shape).Idx → α) (j : (⟨2, ![n, m]⟩ : Shape).Idx)
    (a b : Nat) (ha : (j 0).val = a) (hb : (j 1).val = b) : v j = at2 v a b := by
  subst ha hb
  unfold at2
  congr 1
  refine (eq_ix2 j).trans ?_
  exact congrArg₂ ix2 (Fin.ext (Nat.mod_eq_of_lt (j 0).isLt).symm) (Fin.ext (Nat.mod_eq_of_lt (j 1).isLt).symm)

/-- An entry read at an index is the entry at the index's three coordinates. -/
theorem at3_of {n m k : Nat} [NeZero n] [NeZero m] [NeZero k] {α : Type} (v : (⟨3, ![n, m, k]⟩ : Shape).Idx → α)
    (j : (⟨3, ![n, m, k]⟩ : Shape).Idx)
    (a b c : Nat) (ha : (j 0).val = a) (hb : (j 1).val = b) (hc : (j 2).val = c) : v j = at3 v a b c := by
  subst ha hb hc
  unfold at3
  congr 1
  refine (eq_ix3 j).trans ?_
  funext i
  match i with
  | ⟨0, _⟩ => exact Fin.ext (Nat.mod_eq_of_lt (j 0).isLt).symm
  | ⟨1, _⟩ => exact Fin.ext (Nat.mod_eq_of_lt (j 1).isLt).symm
  | ⟨2, _⟩ => exact Fin.ext (Nat.mod_eq_of_lt (j 2).isLt).symm

/-- The bf16 value of half `f` of a word. -/
def half (f : Nat) (w : BitVec 32) : EReal := Ideal.ofBits .bf16 (w.extractLsb' (16 * f) 16)

/-- The word whose halves are the bf16 values 128 + code of the two codes of a byte. -/
def qword (q : BitVec 8) : BitVec 32 :=
  ((q.setWidth 32 ||| (q.setWidth 32 <<< (12 : Nat))) &&& 983055#32) ||| 1124090624#32

/-- One dequantized entry: half `f` of the code word less half `f` of the zero word, times the scale. -/
def cell (q : BitVec 8) (z : BitVec 32) (s : EReal) (f : Nat) : EReal := (half f (qword q) - half f z) * s

/-- The code words of 32 rows of bytes. -/
def codeWords (q : Vec Ideal S32x128 .i8) : IVec S32x128 32 :=
  ori (andi (ori (extui 32 q natLt_8_32) (shli (extui 32 q natLt_8_32) (broadcast S32x128 12#32))) (broadcast S32x128 983055#32)) (broadcast S32x128 1124090624#32)

/-- The words of the codes, entry by entry. -/
theorem codeWords_apply (q : Vec Ideal S32x128 .i8) (j : S32x128.Idx) : codeWords q j = qword (q j) := by
  rfl

/-- Sixteen rows of dequantized entries from eight rows of bytes (from row `o` on), of zero words and of scale pairs. -/
def bandPay (o : Nat) (h : S32x128.Slices ![o, 0] S8x128) (q : Vec Ideal S32x128 .i8) (z : Vec Ideal S8x128 .i32) (s : Vec Ideal S8x2x128 .bf16) :
    FVec Ideal S16x128 .bf16 :=
  shapeCast S16x128 (mulf (subf
      (bitcastToFloat .bf16 (bitcast S16x128 16 (extractStridedSlice S8x128 ![o, 0] (codeWords q) h) bitcasts_S8x128_w32_S16x128_w16))
      (bitcastToFloat .bf16 (bitcast S16x128 16 z bitcasts_S8x128_w32_S16x128_w16)))
    (interleaveRows S16x128 (shapeCast S8x128 (rowsOfParity 0 S8x1x128 s bitcasts_S8x2x128_w16_S8x1x128_w32) shapeCasts_S8x1x128_S8x128)
      (shapeCast S8x128 (rowsOfParity 1 S8x1x128 s bitcasts_S8x2x128_w16_S8x1x128_w32) shapeCasts_S8x1x128_S8x128) bitcasts_S16x128_w16_S8x128_w32))
    shapeCasts_S16x128_S16x128

/-- What a band stores, entry by entry. -/
theorem bandPay_apply (o : Nat) (ho : o + 8 ≤ 32) (h) (q z s) (x : S16x128.Idx) :
    bandPay o h q z s x = cell (at2 q (o + (x 0).val / 2) (x 1).val) (at2 z ((x 0).val / 2) (x 1).val)
      (at3 s ((x 0).val / 2) ((x 0).val % 2) (x 1).val) ((x 0).val % 2) := by
  unfold bandPay
  rw [shapeCast_self]
  unfold cell
  show (Ideal.ofBits .bf16 (bitcast S16x128 16 _ _ x) - Ideal.ofBits .bf16 (bitcast S16x128 16 _ _ x)) * _ = _
  rw [bitcast_32_16, bitcast_32_16]
  have e0 : ∀ y : S32x128.Idx, codeWords q y = qword (q y) := codeWords_apply q
  have hx := (x 0).isLt
  have hx1 := (x 1).isLt
  congr 1
  · congr 1
    · rw [Pointwise.extractStridedSlice_apply, e0, at2_of q _ (o + (x 0).val / 2) (x 1).val]
      · rfl
      · rfl
      · exact Nat.zero_add _
    · rw [at2_of z _ ((x 0).val / 2) (x 1).val]
      · rfl
      · rfl
      · rfl
  · pointwise
    split
    · rename_i h0
      rw [h0]
      exact at3_of s _ _ _ _ rfl (by rfl) rfl
    · rename_i h0
      have h1 : (x 0).val % 2 = 1 := by omega
      rw [h1]
      exact at3_of s _ _ _ _ rfl (by rfl) rfl

/-- What one store of a band writes, at an entry of the weights: the dequantized entry at that row and column, when the
    loads are at the rows the store belongs to. `G` is any function with those values (`hG`). -/
theorem piece_ok {aA : Memref sig .tc .vmem S3072x512 .i8} {a17 : Memref sig .tc .vmem S768x128 .i32} {a16 : Memref sig .tc .vmem S768x2x128 .bf16}
    (XA : BufTy.Contents (Elt Ideal) aA.view.ty) (X17 : BufTy.Contents (Elt Ideal) a17.view.ty) (X16 : BufTy.Contents (Elt Ideal) a16.view.ty)
    (G : Nat → Nat → EReal) (t b q cc : Nat) (hb : b < 3) (hq : q < 4) (hcc : cc < 8)
    (hG : ∀ j f l, j < 96 → f < 2 → l < 128 → G (192 * t + 2 * j + f) (128 * cc + l)
      = cell (at2 (n := 3072) (m := 512) (aA.view.read (Elt Ideal) XA) (96 * t + j) (128 * (cc % 4) + l))
          (at2 (n := 768) (m := 128) (a17.view.read (Elt Ideal) X17) (j / 8 * 64 + j % 8 + 8 * cc) l)
          (at3 (n := 768) (m := 2) (k := 128) (a16.view.read (Elt Ideal) X16) (j / 8 * 64 + j % 8 + 8 * cc) f l) f)
    {off : Fin 2 → Nat} {inb} (hoff : off = ![192 * t + 64 * b + 16 * q, 128 * cc])
    {qo : Fin 2 → Nat} {qinb} (hqo : qo = ![96 * t + 32 * b, 128 * (cc % 4)])
    {zo : Fin 2 → Nat} {zinb} (hzo : zo = ![(4 * b + q) * 64 + cc * 8, 0])
    {so : Fin 3 → Nat} {sinb} (hso : so = ![(4 * b + q) * 64 + cc * 8, 0, 0])
    (hsl : S32x128.Slices ![8 * q, 0] S8x128)
    (x : (Rect.unit (s := S6144x1024) off S16x128.size inb).shape.Idx) :
    bandPay (8 * q) hsl
        (View.readAt (Elt Ideal) aA.view (Rect.unit (s := S3072x512) qo S32x128.size qinb).toLoadRect XA)
        (View.readAt (Elt Ideal) a17.view (Rect.unit (s := S768x128) zo S8x128.size zinb).toLoadRect X17)
        (View.readAt (Elt Ideal) a16.view (Rect.unit (s := S768x2x128) so S8x2x128.size sinb).toLoadRect X16) x
      = G ((Rect.unit (s := S6144x1024) off S16x128.size inb).emb x 0).val ((Rect.unit (s := S6144x1024) off S16x128.size inb).emb x 1).val := by
  subst hoff hqo hzo hso
  have hx0 : (x 0).val < 16 := (x 0).isLt
  have hx1 : (x 1).val < 128 := (x 1).isLt
  have e0 : ((Rect.unit (s := S6144x1024) ![192 * t + 64 * b + 16 * q, 128 * cc] S16x128.size inb).emb x 0).val
      = 192 * t + 2 * (32 * b + 8 * q + (x 0).val / 2) + (x 0).val % 2 := by
    show 192 * t + 64 * b + 16 * q + 1 * (x 0).val = _
    omega
  have e1 : ((Rect.unit (s := S6144x1024) ![192 * t + 64 * b + 16 * q, 128 * cc] S16x128.size inb).emb x 1).val
      = 128 * cc + (x 1).val := by
    show 128 * cc + 1 * (x 1).val = _
    omega
  rw [e0, e1, hG _ _ _ (by omega) (by omega) hx1]
  refine (bandPay_apply (8 * q) (by omega) hsl _ _ _ x).trans ?_
  congr 1
  · unfold at2
    refine at2_of (aA.view.read (Elt Ideal) XA) _ _ _ ?_ ?_
    · show 96 * t + 32 * b + 1 * ((8 * q + (x 0).val / 2) % 32) = _
      omega
    · show 128 * (cc % 4) + 1 * ((x 1).val % 128) = _
      omega
  · unfold at2
    refine at2_of (a17.view.read (Elt Ideal) X17) _ _ _ ?_ ?_
    · show (4 * b + q) * 64 + cc * 8 + 1 * ((x 0).val / 2 % 8) = _
      omega
    · show 0 + 1 * ((x 1).val % 128) = _
      omega
  · unfold at3
    refine at3_of (a16.view.read (Elt Ideal) X16) _ _ _ _ ?_ ?_ ?_
    · show (4 * b + q) * 64 + cc * 8 + 1 * ((x 0).val / 2 % 8) = _
      omega
    · show 0 + 1 * ((x 0).val % 2 % 2) = _
      omega
    · show 0 + 1 * ((x 1).val % 128) = _
      omega

end Cert.KernelIdeal.Gen

end
-- ==== Proof.KernelIdealBandLoop.lean ====
/- What `KernelIdeal`'s loop over the bands of a chunk leaves in the weights. -/
module

public import proofs.«01_k».proof.Proof.KernelIdealBand
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Where every write that is made agrees with one function `G`, and what was there before agrees with it off the writes,
    what is there afterwards is `G`. -/
theorem read_writes_of_pieces {sg : RefSig} {κ : Kind} {sp : Space} {s : Shape} {e : EltTy} (v : View sg κ sp s e)
    (f : v.ty.Contents (Elt Ideal)) (G : s.Idx → Elt Ideal e) (L : List (View.Piece (Elt Ideal) s e))
    (hL : ∀ p ∈ L, ∀ x : p.1.shape.Idx, p.2 x = G (p.1.emb x)) (y : s.Idx)
    (hy : (∃ p ∈ L, y ∈ p.1.set) ∨ v.read (Elt Ideal) f y = G y) : v.read (Elt Ideal) (v.writes (Elt Ideal) f L) y = G y := by
  by_cases h : ∃ p ∈ L, y ∈ p.1.set
  · rw [View.read_writes_apply_eq_canon v f y L h]
    exact View.canon_apply_of_pieces G L hL y h
  · rw [View.read_writes_apply_of_forall_not_mem v f y L (fun p hp hm => h ⟨p, hp, hm⟩)]
    exact hy.resolve_left h

/-- The dequantized entries of chunk `t` agree with `G`: entry (192 t + 2 j + f, 128 cc + l) is the cell of the byte at
    (96 t + j, 128 cc + l) of the gate's bytes (cc < 4) or of the up projection's, with the expanded zeros and scales. -/
def ChunkIs (R4 R5 : S3072x512.Idx → BitVec 8) (R16 : S768x2x128.Idx → EReal) (R17 : S768x128.Idx → BitVec 32)
    (t : Nat) (G : Nat → Nat → EReal) : Prop :=
  ∀ cc j f l, cc < 8 → j < 96 → f < 2 → l < 128 → G (192 * t + 2 * j + f) (128 * cc + l)
      = cell (at2 (n := 3072) (m := 512) (if cc < 4 then R4 else R5) (96 * t + j) (128 * (cc % 4) + l))
          (at2 (n := 768) (m := 128) R17 (j / 8 * 64 + j % 8 + 8 * cc) l)
          (at3 (n := 768) (m := 2) (k := 128) R16 (j / 8 * 64 + j % 8 + 8 * cc) f l) f

set_option maxHeartbeats 4000000 in
/-- Every store of a band writes `G`. -/
theorem trip_pieces (c : Dev nD) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1) (k0_t1 : Fin k0_t1_loop.trips) (v370 : BitVec 32) (X4 : BufTy.Contents (Elt Ideal) arg4.view.ty) (X5 : BufTy.Contents (Elt Ideal) arg5.view.ty) (X16 : BufTy.Contents (Elt Ideal) arg16.view.ty) (X17 : BufTy.Contents (Elt Ideal) arg17.view.ty) (k : Fin k0_t3_loop.trips) (G : Nat → Nat → EReal)
    (hG : ChunkIs (arg4.view.read (Elt Ideal) X4) (arg5.view.read (Elt Ideal) X5) (arg16.view.read (Elt Ideal) X16) (arg17.view.read (Elt Ideal) X17) k0_t1.val G) :
    ∀ p ∈ tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 k, ∀ x : p.1.shape.Idx, p.2 x = G (p.1.emb x 0).val (p.1.emb x 1).val := by
  intro p hp
  have hk : k.val < 3 := Nat.lt_of_lt_of_le k.isLt k0_t3_abs.2.1
  unfold tripL_k0_t3 trip_k0_t3 at hp
  dsimp only at hp
  simp only [List.mem_cons, List.not_mem_nil, or_false] at hp
  rcases hp with rfl|rfl|rfl|rfl|rfl|rfl|rfl|rfl|rfl|rfl|rfl|rfl|rfl|rfl|rfl|rfl|rfl|rfl|rfl|rfl|rfl|rfl|rfl|rfl|rfl|rfl|rfl|rfl|rfl|rfl|rfl|rfl
  · exact piece_ok (inb := k0_off22_inb i k0_t1 k k0_h1 3) (qinb := k0_off17_inb i k0_t1 k k0_h1) (zinb := k0_off10_inb i k k0_h1 3 7) (sinb := k0_off11_inb i k k0_h1 3 7) (aA := arg5) (a17 := arg17) (a16 := arg16) X5 X17 X16 G k0_t1.val k.val 3 7 hk (by decide) (by decide) (fun j f l hj hf hl => hG 7 j f l (by decide) hj hf hl) (off22_eq k0_t1 k 3) (off17_eq k0_t1 k) (off10_eq k 3 7) (off11_eq k 3 7) slices_S32x128_o24_0_S8x128
  · exact piece_ok (inb := k0_off22_inb i k0_t1 k k0_h1 2) (qinb := k0_off17_inb i k0_t1 k k0_h1) (zinb := k0_off10_inb i k k0_h1 2 7) (sinb := k0_off11_inb i k k0_h1 2 7) (aA := arg5) (a17 := arg17) (a16 := arg16) X5 X17 X16 G k0_t1.val k.val 2 7 hk (by decide) (by decide) (fun j f l hj hf hl => hG 7 j f l (by decide) hj hf hl) (off22_eq k0_t1 k 2) (off17_eq k0_t1 k) (off10_eq k 2 7) (off11_eq k 2 7) slices_S32x128_o16_0_S8x128
  · exact piece_ok (inb := k0_off22_inb i k0_t1 k k0_h1 1) (qinb := k0_off17_inb i k0_t1 k k0_h1) (zinb := k0_off10_inb i k k0_h1 1 7) (sinb := k0_off11_inb i k k0_h1 1 7) (aA := arg5) (a17 := arg17) (a16 := arg16) X5 X17 X16 G k0_t1.val k.val 1 7 hk (by decide) (by decide) (fun j f l hj hf hl => hG 7 j f l (by decide) hj hf hl) (off22_eq k0_t1 k 1) (off17_eq k0_t1 k) (off10_eq k 1 7) (off11_eq k 1 7) slices_S32x128_o8_0_S8x128
  · exact piece_ok (inb := k0_off22_inb i k0_t1 k k0_h1 0) (qinb := k0_off17_inb i k0_t1 k k0_h1) (zinb := k0_off10_inb i k k0_h1 0 7) (sinb := k0_off11_inb i k k0_h1 0 7) (aA := arg5) (a17 := arg17) (a16 := arg16) X5 X17 X16 G k0_t1.val k.val 0 7 hk (by decide) (by decide) (fun j f l hj hf hl => hG 7 j f l (by decide) hj hf hl) (off22_eq k0_t1 k 0) (off17_eq k0_t1 k) (off10_eq k 0 7) (off11_eq k 0 7) slices_S32x128_o0_0_S8x128
  · exact piece_ok (inb := k0_off21_inb i k0_t1 k k0_h1 3) (qinb := k0_off15_inb i k0_t1 k k0_h1) (zinb := k0_off10_inb i k k0_h1 3 6) (sinb := k0_off11_inb i k k0_h1 3 6) (aA := arg5) (a17 := arg17) (a16 := arg16) X5 X17 X16 G k0_t1.val k.val 3 6 hk (by decide) (by decide) (fun j f l hj hf hl => hG 6 j f l (by decide) hj hf hl) (off21_eq k0_t1 k 3) (off15_eq k0_t1 k) (off10_eq k 3 6) (off11_eq k 3 6) slices_S32x128_o24_0_S8x128
  · exact piece_ok (inb := k0_off21_inb i k0_t1 k k0_h1 2) (qinb := k0_off15_inb i k0_t1 k k0_h1) (zinb := k0_off10_inb i k k0_h1 2 6) (sinb := k0_off11_inb i k k0_h1 2 6) (aA := arg5) (a17 := arg17) (a16 := arg16) X5 X17 X16 G k0_t1.val k.val 2 6 hk (by decide) (by decide) (fun j f l hj hf hl => hG 6 j f l (by decide) hj hf hl) (off21_eq k0_t1 k 2) (off15_eq k0_t1 k) (off10_eq k 2 6) (off11_eq k 2 6) slices_S32x128_o16_0_S8x128
  · exact piece_ok (inb := k0_off21_inb i k0_t1 k k0_h1 1) (qinb := k0_off15_inb i k0_t1 k k0_h1) (zinb := k0_off10_inb i k k0_h1 1 6) (sinb := k0_off11_inb i k k0_h1 1 6) (aA := arg5) (a17 := arg17) (a16 := arg16) X5 X17 X16 G k0_t1.val k.val 1 6 hk (by decide) (by decide) (fun j f l hj hf hl => hG 6 j f l (by decide) hj hf hl) (off21_eq k0_t1 k 1) (off15_eq k0_t1 k) (off10_eq k 1 6) (off11_eq k 1 6) slices_S32x128_o8_0_S8x128
  · exact piece_ok (inb := k0_off21_inb i k0_t1 k k0_h1 0) (qinb := k0_off15_inb i k0_t1 k k0_h1) (zinb := k0_off10_inb i k k0_h1 0 6) (sinb := k0_off11_inb i k k0_h1 0 6) (aA := arg5) (a17 := arg17) (a16 := arg16) X5 X17 X16 G k0_t1.val k.val 0 6 hk (by decide) (by decide) (fun j f l hj hf hl => hG 6 j f l (by decide) hj hf hl) (off21_eq k0_t1 k 0) (off15_eq k0_t1 k) (off10_eq k 0 6) (off11_eq k 0 6) slices_S32x128_o0_0_S8x128
  · exact piece_ok (inb := k0_off20_inb i k0_t1 k k0_h1 3) (qinb := k0_off13_inb i k0_t1 k k0_h1) (zinb := k0_off10_inb i k k0_h1 3 5) (sinb := k0_off11_inb i k k0_h1 3 5) (aA := arg5) (a17 := arg17) (a16 := arg16) X5 X17 X16 G k0_t1.val k.val 3 5 hk (by decide) (by decide) (fun j f l hj hf hl => hG 5 j f l (by decide) hj hf hl) (off20_eq k0_t1 k 3) (off13_eq k0_t1 k) (off10_eq k 3 5) (off11_eq k 3 5) slices_S32x128_o24_0_S8x128
  · exact piece_ok (inb := k0_off20_inb i k0_t1 k k0_h1 2) (qinb := k0_off13_inb i k0_t1 k k0_h1) (zinb := k0_off10_inb i k k0_h1 2 5) (sinb := k0_off11_inb i k k0_h1 2 5) (aA := arg5) (a17 := arg17) (a16 := arg16) X5 X17 X16 G k0_t1.val k.val 2 5 hk (by decide) (by decide) (fun j f l hj hf hl => hG 5 j f l (by decide) hj hf hl) (off20_eq k0_t1 k 2) (off13_eq k0_t1 k) (off10_eq k 2 5) (off11_eq k 2 5) slices_S32x128_o16_0_S8x128
  · exact piece_ok (inb := k0_off20_inb i k0_t1 k k0_h1 1) (qinb := k0_off13_inb i k0_t1 k k0_h1) (zinb := k0_off10_inb i k k0_h1 1 5) (sinb := k0_off11_inb i k k0_h1 1 5) (aA := arg5) (a17 := arg17) (a16 := arg16) X5 X17 X16 G k0_t1.val k.val 1 5 hk (by decide) (by decide) (fun j f l hj hf hl => hG 5 j f l (by decide) hj hf hl) (off20_eq k0_t1 k 1) (off13_eq k0_t1 k) (off10_eq k 1 5) (off11_eq k 1 5) slices_S32x128_o8_0_S8x128
  · exact piece_ok (inb := k0_off20_inb i k0_t1 k k0_h1 0) (qinb := k0_off13_inb i k0_t1 k k0_h1) (zinb := k0_off10_inb i k k0_h1 0 5) (sinb := k0_off11_inb i k k0_h1 0 5) (aA := arg5) (a17 := arg17) (a16 := arg16) X5 X17 X16 G k0_t1.val k.val 0 5 hk (by decide) (by decide) (fun j f l hj hf hl => hG 5 j f l (by decide) hj hf hl) (off20_eq k0_t1 k 0) (off13_eq k0_t1 k) (off10_eq k 0 5) (off11_eq k 0 5) slices_S32x128_o0_0_S8x128
  · exact piece_ok (inb := k0_off19_inb i k0_t1 k k0_h1 3) (qinb := k0_off9_inb i k0_t1 k k0_h1) (zinb := k0_off10_inb i k k0_h1 3 4) (sinb := k0_off11_inb i k k0_h1 3 4) (aA := arg5) (a17 := arg17) (a16 := arg16) X5 X17 X16 G k0_t1.val k.val 3 4 hk (by decide) (by decide) (fun j f l hj hf hl => hG 4 j f l (by decide) hj hf hl) (off19_eq k0_t1 k 3) (off9_eq k0_t1 k) (off10_eq k 3 4) (off11_eq k 3 4) slices_S32x128_o24_0_S8x128
  · exact piece_ok (inb := k0_off19_inb i k0_t1 k k0_h1 2) (qinb := k0_off9_inb i k0_t1 k k0_h1) (zinb := k0_off10_inb i k k0_h1 2 4) (sinb := k0_off11_inb i k k0_h1 2 4) (aA := arg5) (a17 := arg17) (a16 := arg16) X5 X17 X16 G k0_t1.val k.val 2 4 hk (by decide) (by decide) (fun j f l hj hf hl => hG 4 j f l (by decide) hj hf hl) (off19_eq k0_t1 k 2) (off9_eq k0_t1 k) (off10_eq k 2 4) (off11_eq k 2 4) slices_S32x128_o16_0_S8x128
  · exact piece_ok (inb := k0_off19_inb i k0_t1 k k0_h1 1) (qinb := k0_off9_inb i k0_t1 k k0_h1) (zinb := k0_off10_inb i k k0_h1 1 4) (sinb := k0_off11_inb i k k0_h1 1 4) (aA := arg5) (a17 := arg17) (a16 := arg16) X5 X17 X16 G k0_t1.val k.val 1 4 hk (by decide) (by decide) (fun j f l hj hf hl => hG 4 j f l (by decide) hj hf hl) (off19_eq k0_t1 k 1) (off9_eq k0_t1 k) (off10_eq k 1 4) (off11_eq k 1 4) slices_S32x128_o8_0_S8x128
  · exact piece_ok (inb := k0_off19_inb i k0_t1 k k0_h1 0) (qinb := k0_off9_inb i k0_t1 k k0_h1) (zinb := k0_off10_inb i k k0_h1 0 4) (sinb := k0_off11_inb i k k0_h1 0 4) (aA := arg5) (a17 := arg17) (a16 := arg16) X5 X17 X16 G k0_t1.val k.val 0 4 hk (by decide) (by decide) (fun j f l hj hf hl => hG 4 j f l (by decide) hj hf hl) (off19_eq k0_t1 k 0) (off9_eq k0_t1 k) (off10_eq k 0 4) (off11_eq k 0 4) slices_S32x128_o0_0_S8x128
  · exact piece_ok (inb := k0_off18_inb i k0_t1 k k0_h1 3) (qinb := k0_off17_inb i k0_t1 k k0_h1) (zinb := k0_off10_inb i k k0_h1 3 3) (sinb := k0_off11_inb i k k0_h1 3 3) (aA := arg4) (a17 := arg17) (a16 := arg16) X4 X17 X16 G k0_t1.val k.val 3 3 hk (by decide) (by decide) (fun j f l hj hf hl => hG 3 j f l (by decide) hj hf hl) (off18_eq k0_t1 k 3) (off17_eq k0_t1 k) (off10_eq k 3 3) (off11_eq k 3 3) slices_S32x128_o24_0_S8x128
  · exact piece_ok (inb := k0_off18_inb i k0_t1 k k0_h1 2) (qinb := k0_off17_inb i k0_t1 k k0_h1) (zinb := k0_off10_inb i k k0_h1 2 3) (sinb := k0_off11_inb i k k0_h1 2 3) (aA := arg4) (a17 := arg17) (a16 := arg16) X4 X17 X16 G k0_t1.val k.val 2 3 hk (by decide) (by decide) (fun j f l hj hf hl => hG 3 j f l (by decide) hj hf hl) (off18_eq k0_t1 k 2) (off17_eq k0_t1 k) (off10_eq k 2 3) (off11_eq k 2 3) slices_S32x128_o16_0_S8x128
  · exact piece_ok (inb := k0_off18_inb i k0_t1 k k0_h1 1) (qinb := k0_off17_inb i k0_t1 k k0_h1) (zinb := k0_off10_inb i k k0_h1 1 3) (sinb := k0_off11_inb i k k0_h1 1 3) (aA := arg4) (a17 := arg17) (a16 := arg16) X4 X17 X16 G k0_t1.val k.val 1 3 hk (by decide) (by decide) (fun j f l hj hf hl => hG 3 j f l (by decide) hj hf hl) (off18_eq k0_t1 k 1) (off17_eq k0_t1 k) (off10_eq k 1 3) (off11_eq k 1 3) slices_S32x128_o8_0_S8x128
  · exact piece_ok (inb := k0_off18_inb i k0_t1 k k0_h1 0) (qinb := k0_off17_inb i k0_t1 k k0_h1) (zinb := k0_off10_inb i k k0_h1 0 3) (sinb := k0_off11_inb i k k0_h1 0 3) (aA := arg4) (a17 := arg17) (a16 := arg16) X4 X17 X16 G k0_t1.val k.val 0 3 hk (by decide) (by decide) (fun j f l hj hf hl => hG 3 j f l (by decide) hj hf hl) (off18_eq k0_t1 k 0) (off17_eq k0_t1 k) (off10_eq k 0 3) (off11_eq k 0 3) slices_S32x128_o0_0_S8x128
  · exact piece_ok (inb := k0_off16_inb i k0_t1 k k0_h1 3) (qinb := k0_off15_inb i k0_t1 k k0_h1) (zinb := k0_off10_inb i k k0_h1 3 2) (sinb := k0_off11_inb i k k0_h1 3 2) (aA := arg4) (a17 := arg17) (a16 := arg16) X4 X17 X16 G k0_t1.val k.val 3 2 hk (by decide) (by decide) (fun j f l hj hf hl => hG 2 j f l (by decide) hj hf hl) (off16_eq k0_t1 k 3) (off15_eq k0_t1 k) (off10_eq k 3 2) (off11_eq k 3 2) slices_S32x128_o24_0_S8x128
  · exact piece_ok (inb := k0_off16_inb i k0_t1 k k0_h1 2) (qinb := k0_off15_inb i k0_t1 k k0_h1) (zinb := k0_off10_inb i k k0_h1 2 2) (sinb := k0_off11_inb i k k0_h1 2 2) (aA := arg4) (a17 := arg17) (a16 := arg16) X4 X17 X16 G k0_t1.val k.val 2 2 hk (by decide) (by decide) (fun j f l hj hf hl => hG 2 j f l (by decide) hj hf hl) (off16_eq k0_t1 k 2) (off15_eq k0_t1 k) (off10_eq k 2 2) (off11_eq k 2 2) slices_S32x128_o16_0_S8x128
  · exact piece_ok (inb := k0_off16_inb i k0_t1 k k0_h1 1) (qinb := k0_off15_inb i k0_t1 k k0_h1) (zinb := k0_off10_inb i k k0_h1 1 2) (sinb := k0_off11_inb i k k0_h1 1 2) (aA := arg4) (a17 := arg17) (a16 := arg16) X4 X17 X16 G k0_t1.val k.val 1 2 hk (by decide) (by decide) (fun j f l hj hf hl => hG 2 j f l (by decide) hj hf hl) (off16_eq k0_t1 k 1) (off15_eq k0_t1 k) (off10_eq k 1 2) (off11_eq k 1 2) slices_S32x128_o8_0_S8x128
  · exact piece_ok (inb := k0_off16_inb i k0_t1 k k0_h1 0) (qinb := k0_off15_inb i k0_t1 k k0_h1) (zinb := k0_off10_inb i k k0_h1 0 2) (sinb := k0_off11_inb i k k0_h1 0 2) (aA := arg4) (a17 := arg17) (a16 := arg16) X4 X17 X16 G k0_t1.val k.val 0 2 hk (by decide) (by decide) (fun j f l hj hf hl => hG 2 j f l (by decide) hj hf hl) (off16_eq k0_t1 k 0) (off15_eq k0_t1 k) (off10_eq k 0 2) (off11_eq k 0 2) slices_S32x128_o0_0_S8x128
  · exact piece_ok (inb := k0_off14_inb i k0_t1 k k0_h1 3) (qinb := k0_off13_inb i k0_t1 k k0_h1) (zinb := k0_off10_inb i k k0_h1 3 1) (sinb := k0_off11_inb i k k0_h1 3 1) (aA := arg4) (a17 := arg17) (a16 := arg16) X4 X17 X16 G k0_t1.val k.val 3 1 hk (by decide) (by decide) (fun j f l hj hf hl => hG 1 j f l (by decide) hj hf hl) (off14_eq k0_t1 k 3) (off13_eq k0_t1 k) (off10_eq k 3 1) (off11_eq k 3 1) slices_S32x128_o24_0_S8x128
  · exact piece_ok (inb := k0_off14_inb i k0_t1 k k0_h1 2) (qinb := k0_off13_inb i k0_t1 k k0_h1) (zinb := k0_off10_inb i k k0_h1 2 1) (sinb := k0_off11_inb i k k0_h1 2 1) (aA := arg4) (a17 := arg17) (a16 := arg16) X4 X17 X16 G k0_t1.val k.val 2 1 hk (by decide) (by decide) (fun j f l hj hf hl => hG 1 j f l (by decide) hj hf hl) (off14_eq k0_t1 k 2) (off13_eq k0_t1 k) (off10_eq k 2 1) (off11_eq k 2 1) slices_S32x128_o16_0_S8x128
  · exact piece_ok (inb := k0_off14_inb i k0_t1 k k0_h1 1) (qinb := k0_off13_inb i k0_t1 k k0_h1) (zinb := k0_off10_inb i k k0_h1 1 1) (sinb := k0_off11_inb i k k0_h1 1 1) (aA := arg4) (a17 := arg17) (a16 := arg16) X4 X17 X16 G k0_t1.val k.val 1 1 hk (by decide) (by decide) (fun j f l hj hf hl => hG 1 j f l (by decide) hj hf hl) (off14_eq k0_t1 k 1) (off13_eq k0_t1 k) (off10_eq k 1 1) (off11_eq k 1 1) slices_S32x128_o8_0_S8x128
  · exact piece_ok (inb := k0_off14_inb i k0_t1 k k0_h1 0) (qinb := k0_off13_inb i k0_t1 k k0_h1) (zinb := k0_off10_inb i k k0_h1 0 1) (sinb := k0_off11_inb i k k0_h1 0 1) (aA := arg4) (a17 := arg17) (a16 := arg16) X4 X17 X16 G k0_t1.val k.val 0 1 hk (by decide) (by decide) (fun j f l hj hf hl => hG 1 j f l (by decide) hj hf hl) (off14_eq k0_t1 k 0) (off13_eq k0_t1 k) (off10_eq k 0 1) (off11_eq k 0 1) slices_S32x128_o0_0_S8x128
  · exact piece_ok (inb := k0_off12_inb i k0_t1 k k0_h1 3) (qinb := k0_off9_inb i k0_t1 k k0_h1) (zinb := k0_off10_inb i k k0_h1 3 0) (sinb := k0_off11_inb i k k0_h1 3 0) (aA := arg4) (a17 := arg17) (a16 := arg16) X4 X17 X16 G k0_t1.val k.val 3 0 hk (by decide) (by decide) (fun j f l hj hf hl => hG 0 j f l (by decide) hj hf hl) (off12_eq k0_t1 k 3) (off9_eq k0_t1 k) (off10_eq k 3 0) (off11_eq k 3 0) slices_S32x128_o24_0_S8x128
  · exact piece_ok (inb := k0_off12_inb i k0_t1 k k0_h1 2) (qinb := k0_off9_inb i k0_t1 k k0_h1) (zinb := k0_off10_inb i k k0_h1 2 0) (sinb := k0_off11_inb i k k0_h1 2 0) (aA := arg4) (a17 := arg17) (a16 := arg16) X4 X17 X16 G k0_t1.val k.val 2 0 hk (by decide) (by decide) (fun j f l hj hf hl => hG 0 j f l (by decide) hj hf hl) (off12_eq k0_t1 k 2) (off9_eq k0_t1 k) (off10_eq k 2 0) (off11_eq k 2 0) slices_S32x128_o16_0_S8x128
  · exact piece_ok (inb := k0_off12_inb i k0_t1 k k0_h1 1) (qinb := k0_off9_inb i k0_t1 k k0_h1) (zinb := k0_off10_inb i k k0_h1 1 0) (sinb := k0_off11_inb i k k0_h1 1 0) (aA := arg4) (a17 := arg17) (a16 := arg16) X4 X17 X16 G k0_t1.val k.val 1 0 hk (by decide) (by decide) (fun j f l hj hf hl => hG 0 j f l (by decide) hj hf hl) (off12_eq k0_t1 k 1) (off9_eq k0_t1 k) (off10_eq k 1 0) (off11_eq k 1 0) slices_S32x128_o8_0_S8x128
  · exact piece_ok (inb := k0_off12_inb i k0_t1 k k0_h1 0) (qinb := k0_off9_inb i k0_t1 k k0_h1) (zinb := k0_off10_inb i k k0_h1 0 0) (sinb := k0_off11_inb i k k0_h1 0 0) (aA := arg4) (a17 := arg17) (a16 := arg16) X4 X17 X16 G k0_t1.val k.val 0 0 hk (by decide) (by decide) (fun j f l hj hf hl => hG 0 j f l (by decide) hj hf hl) (off12_eq k0_t1 k 0) (off9_eq k0_t1 k) (off10_eq k 0 0) (off11_eq k 0 0) slices_S32x128_o0_0_S8x128

set_option maxHeartbeats 4000000 in
/-- A band has a store at each sixteen of its rows and each 128 columns. -/
theorem trip_rects (c : Dev nD) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1) (k0_t1 : Fin k0_t1_loop.trips) (v370 : BitVec 32) (X4 : BufTy.Contents (Elt Ideal) arg4.view.ty) (X5 : BufTy.Contents (Elt Ideal) arg5.view.ty) (X16 : BufTy.Contents (Elt Ideal) arg16.view.ty) (X17 : BufTy.Contents (Elt Ideal) arg17.view.ty) (k : Fin k0_t3_loop.trips) (q : Fin 4) (cc : Fin 8) :
    ∃ p ∈ tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 k, ∃ (off : Fin 2 → Nat) (inb : ∀ a, off a + S16x128.size a ≤ S6144x1024.size a),
      p.1 = Rect.unit (s := S6144x1024) off S16x128.size inb ∧ off = ![192 * k0_t1.val + 64 * k.val + 16 * q.val, 128 * cc.val] := by
  unfold tripL_k0_t3 trip_k0_t3
  dsimp only
  match q, cc with
  | ⟨0, _⟩, ⟨0, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))))), _, k0_off12_inb i k0_t1 k k0_h1 0, rfl, off12_eq k0_t1 k 0⟩
  | ⟨0, _⟩, ⟨1, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))), _, k0_off14_inb i k0_t1 k k0_h1 0, rfl, off14_eq k0_t1 k 0⟩
  | ⟨0, _⟩, ⟨2, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))), _, k0_off16_inb i k0_t1 k k0_h1 0, rfl, off16_eq k0_t1 k 0⟩
  | ⟨0, _⟩, ⟨3, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), _, k0_off18_inb i k0_t1 k k0_h1 0, rfl, off18_eq k0_t1 k 0⟩
  | ⟨0, _⟩, ⟨4, _⟩ => exact ⟨_, (.tail _ (.tail _ (.tail _ (.tail _ (.tail _ (.tail _ (.tail _ (.tail _ (.tail _ (.tail _ (.tail _ (.tail _ (.tail _ (.tail _ (.tail _ (.head _)))))))))))))))), _, k0_off19_inb i k0_t1 k k0_h1 0, rfl, off19_eq k0_t1 k 0⟩
  | ⟨0, _⟩, ⟨5, _⟩ => exact ⟨_, (.tail _ (.tail _ (.tail _ (.tail _ (.tail _ (.tail _ (.tail _ (.tail _ (.tail _ (.tail _ (.tail _ (.head _)))))))))))), _, k0_off20_inb i k0_t1 k k0_h1 0, rfl, off20_eq k0_t1 k 0⟩
  | ⟨0, _⟩, ⟨6, _⟩ => exact ⟨_, (.tail _ (.tail _ (.tail _ (.tail _ (.tail _ (.tail _ (.tail _ (.head _)))))))), _, k0_off21_inb i k0_t1 k k0_h1 0, rfl, off21_eq k0_t1 k 0⟩
  | ⟨0, _⟩, ⟨7, _⟩ => exact ⟨_, (.tail _ (.tail _ (.tail _ (.head _)))), _, k0_off22_inb i k0_t1 k k0_h1 0, rfl, off22_eq k0_t1 k 0⟩
  | ⟨1, _⟩, ⟨0, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))))), _, k0_off12_inb i k0_t1 k k0_h1 1, rfl, off12_eq k0_t1 k 1⟩
  | ⟨1, _⟩, ⟨1, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))), _, k0_off14_inb i k0_t1 k k0_h1 1, rfl, off14_eq k0_t1 k 1⟩
  | ⟨1, _⟩, ⟨2, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), _, k0_off16_inb i k0_t1 k k0_h1 1, rfl, off16_eq k0_t1 k 1⟩
  | ⟨1, _⟩, ⟨3, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.head _))))))))))))))))))), _, k0_off18_inb i k0_t1 k k0_h1 1, rfl, off18_eq k0_t1 k 1⟩
  | ⟨1, _⟩, ⟨4, _⟩ => exact ⟨_, (.tail _ (.tail _ (.tail _ (.tail _ (.tail _ (.tail _ (.tail _ (.tail _ (.tail _ (.tail _ (.tail _ (.tail _ (.tail _ (.tail _ (.head _))))))))))))))), _, k0_off19_inb i k0_t1 k k0_h1 1, rfl, off19_eq k0_t1 k 1⟩
  | ⟨1, _⟩, ⟨5, _⟩ => exact ⟨_, (.tail _ (.tail _ (.tail _ (.tail _ (.tail _ (.tail _ (.tail _ (.tail _ (.tail _ (.tail _ (.head _))))))))))), _, k0_off20_inb i k0_t1 k k0_h1 1, rfl, off20_eq k0_t1 k 1⟩
  | ⟨1, _⟩, ⟨6, _⟩ => exact ⟨_, (.tail _ (.tail _ (.tail _ (.tail _ (.tail _ (.tail _ (.head _))))))), _, k0_off21_inb i k0_t1 k k0_h1 1, rfl, off21_eq k0_t1 k 1⟩
  | ⟨1, _⟩, ⟨7, _⟩ => exact ⟨_, (.tail _ (.tail _ (.head _))), _, k0_off22_inb i k0_t1 k k0_h1 1, rfl, off22_eq k0_t1 k 1⟩
  | ⟨2, _⟩, ⟨0, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))))))), _, k0_off12_inb i k0_t1 k k0_h1 2, rfl, off12_eq k0_t1 k 2⟩
  | ⟨2, _⟩, ⟨1, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))))))), _, k0_off14_inb i k0_t1 k k0_h1 2, rfl, off14_eq k0_t1 k 2⟩
  | ⟨2, _⟩, ⟨2, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), _, k0_off16_inb i k0_t1 k k0_h1 2, rfl, off16_eq k0_t1 k 2⟩
  | ⟨2, _⟩, ⟨3, _⟩ => exact ⟨_, (.tail _ (.tail _ (.tail _ (.tail _ (.tail _ (.tail _ (.tail _ (.tail _ (.tail _ (.tail _ (.tail _ (.tail _ (.tail _ (.tail _ (.tail _ (.tail _ (.tail _ (.head _)))))))))))))))))), _, k0_off18_inb i k0_t1 k k0_h1 2, rfl, off18_eq k0_t1 k 2⟩
  | ⟨2, _⟩, ⟨4, _⟩ => exact ⟨_, (.tail _ (.tail _ (.tail _ (.tail _ (.tail _ (.tail _ (.tail _ (.tail _ (.tail _ (.tail _ (.tail _ (.tail _ (.tail _ (.head _)))))))))))))), _, k0_off19_inb i k0_t1 k k0_h1 2, rfl, off19_eq k0_t1 k 2⟩
  | ⟨2, _⟩, ⟨5, _⟩ => exact ⟨_, (.tail _ (.tail _ (.tail _ (.tail _ (.tail _ (.tail _ (.tail _ (.tail _ (.tail _ (.head _)))))))))), _, k0_off20_inb i k0_t1 k k0_h1 2, rfl, off20_eq k0_t1 k 2⟩
  | ⟨2, _⟩, ⟨6, _⟩ => exact ⟨_, (.tail _ (.tail _ (.tail _ (.tail _ (.tail _ (.head _)))))), _, k0_off21_inb i k0_t1 k k0_h1 2, rfl, off21_eq k0_t1 k 2⟩
  | ⟨2, _⟩, ⟨7, _⟩ => exact ⟨_, (.tail _ (.head _)), _, k0_off22_inb i k0_t1 k k0_h1 2, rfl, off22_eq k0_t1 k 2⟩
  | ⟨3, _⟩, ⟨0, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))))))), _, k0_off12_inb i k0_t1 k k0_h1 3, rfl, off12_eq k0_t1 k 3⟩
  | ⟨3, _⟩, ⟨1, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))))), _, k0_off14_inb i k0_t1 k k0_h1 3, rfl, off14_eq k0_t1 k 3⟩
  | ⟨3, _⟩, ⟨2, _⟩ => exact ⟨_, (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), _, k0_off16_inb i k0_t1 k k0_h1 3, rfl, off16_eq k0_t1 k 3⟩
  | ⟨3, _⟩, ⟨3, _⟩ => exact ⟨_, (.tail _ (.tail _ (.tail _ (.tail _ (.tail _ (.tail _ (.tail _ (.tail _ (.tail _ (.tail _ (.tail _ (.tail _ (.tail _ (.tail _ (.tail _ (.tail _ (.head _))))))))))))))))), _, k0_off18_inb i k0_t1 k k0_h1 3, rfl, off18_eq k0_t1 k 3⟩
  | ⟨3, _⟩, ⟨4, _⟩ => exact ⟨_, (.tail _ (.tail _ (.tail _ (.tail _ (.tail _ (.tail _ (.tail _ (.tail _ (.tail _ (.tail _ (.tail _ (.tail _ (.head _))))))))))))), _, k0_off19_inb i k0_t1 k k0_h1 3, rfl, off19_eq k0_t1 k 3⟩
  | ⟨3, _⟩, ⟨5, _⟩ => exact ⟨_, (.tail _ (.tail _ (.tail _ (.tail _ (.tail _ (.tail _ (.tail _ (.tail _ (.head _))))))))), _, k0_off20_inb i k0_t1 k k0_h1 3, rfl, off20_eq k0_t1 k 3⟩
  | ⟨3, _⟩, ⟨6, _⟩ => exact ⟨_, (.tail _ (.tail _ (.tail _ (.tail _ (.head _))))), _, k0_off21_inb i k0_t1 k k0_h1 3, rfl, off21_eq k0_t1 k 3⟩
  | ⟨3, _⟩, ⟨7, _⟩ => exact ⟨_, (.head _), _, k0_off22_inb i k0_t1 k k0_h1 3, rfl, off22_eq k0_t1 k 3⟩

/-- So a band covers its 64 rows. -/
theorem trip_cover (c : Dev nD) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1) (k0_t1 : Fin k0_t1_loop.trips) (v370 : BitVec 32) (X4 : BufTy.Contents (Elt Ideal) arg4.view.ty) (X5 : BufTy.Contents (Elt Ideal) arg5.view.ty) (X16 : BufTy.Contents (Elt Ideal) arg16.view.ty) (X17 : BufTy.Contents (Elt Ideal) arg17.view.ty) (k : Fin k0_t3_loop.trips) (y : S6144x1024.Idx)
    (h0 : 192 * k0_t1.val + 64 * k.val ≤ (y 0).val) (h1 : (y 0).val < 192 * k0_t1.val + 64 * k.val + 64) :
    ∃ p ∈ tripL_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 k, y ∈ p.1.set := by
  have hy1 : (y 1).val < 1024 := (y 1).isLt
  obtain ⟨p, hp, off, inb, hr, ho⟩ := trip_rects c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 k
    ⟨((y 0).val - (192 * k0_t1.val + 64 * k.val)) / 16, by omega⟩ ⟨(y 1).val / 128, by omega⟩
  refine ⟨p, hp, ?_⟩
  rw [hr, Rect.mem_set_unit]
  subst ho
  refine fun a => ?_
  match a with
  | ⟨0, _⟩ =>
    show 192 * k0_t1.val + 64 * k.val + 16 * (((y 0).val - (192 * k0_t1.val + 64 * k.val)) / 16) ≤ (y 0).val ∧ (y 0).val < 192 * k0_t1.val + 64 * k.val + 16 * (((y 0).val - (192 * k0_t1.val + 64 * k.val)) / 16) + 16
    omega
  | ⟨1, _⟩ =>
    show 128 * ((y 1).val / 128) ≤ (y 1).val ∧ (y 1).val < 128 * ((y 1).val / 128) + 128
    omega

/-- After `n` bands of chunk `k0_t1`, the weights' rows below the bands done are `G`, if those below the chunk were before. -/
theorem bands_read (c : Dev nD) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1) (k0_t1 : Fin k0_t1_loop.trips) (v370 : BitVec 32) (X4 : BufTy.Contents (Elt Ideal) arg4.view.ty) (X5 : BufTy.Contents (Elt Ideal) arg5.view.ty) (X16 : BufTy.Contents (Elt Ideal) arg16.view.ty) (X17 : BufTy.Contents (Elt Ideal) arg17.view.ty) (f : BufTy.Contents (Elt Ideal) arg11.view.ty) (G : Nat → Nat → EReal)
    (hG : ChunkIs (arg4.view.read (Elt Ideal) X4) (arg5.view.read (Elt Ideal) X5) (arg16.view.read (Elt Ideal) X16) (arg17.view.read (Elt Ideal) X17) k0_t1.val G)
    (hf : ∀ y : S6144x1024.Idx, (y 0).val < 192 * k0_t1.val → arg11.view.read (Elt Ideal) f y = G (y 0).val (y 1).val) :
    ∀ n : Nat, n ≤ 3 → ∀ y : S6144x1024.Idx, (y 0).val < 192 * k0_t1.val + 64 * n →
      arg11.view.read (Elt Ideal) (arg11.view.writes (Elt Ideal) f (pb_k0_t3 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 n)) y = G (y 0).val (y 1).val
  | 0, _, y, hy => hf y (by omega)
  | n + 1, hn, y, hy => by
    have htr : k0_t3_loop.trips = 3 := by decide
    have hs := pb_k0_t3_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 ⟨n, by omega⟩
    rw [show n + 1 = (⟨n, by omega⟩ : Fin k0_t3_loop.trips).val + 1 from rfl, hs, View.writes_append]
    refine read_writes_of_pieces arg11.view _ (fun y => G (y 0).val (y 1).val) _
      (trip_pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 ⟨n, by omega⟩ G hG) y ?_
    by_cases h : 192 * k0_t1.val + 64 * n ≤ (y 0).val
    · exact .inl (trip_cover c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 ⟨n, by omega⟩ y h (by show _ < 192 * k0_t1.val + 64 * n + 64; omega))
    · exact .inr (bands_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 X4 X5 X16 X17 f G hG hf n (by omega) y (by omega))

end Cert.KernelIdeal.Gen

end
-- ==== Proof.KernelIdealTables.lean ====
/- What `KernelIdeal`'s four tables hold after the stores that build them, entry by entry. -/
module

public import proofs.«01_k».proof.Proof.KernelIdealBandLoop
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The scale of row `r % 8` (column group) and group `r / 8`, at column `l`. -/
def scaleAt (R6 R7 : S48x512.Idx → EReal) (r l : Nat) : EReal :=
  at2 (n := 48) (m := 512) (if r % 8 < 4 then R6 else R7) (r / 8) (128 * (r % 8 % 4) + l)

/-- The table for the low rows: the scale in the low half, zero in the high half. -/
def loTab (R6 R7 : S48x512.Idx → EReal) (r h l : Nat) : EReal :=
  if h = 0 then scaleAt R6 R7 r l else Ideal.ofBits .bf16 0x0000#16

/-- The table for the high rows: zero in the low half, the scale in the high half. -/
def hiTab (R6 R7 : S48x512.Idx → EReal) (r h l : Nat) : EReal :=
  if h = 0 then Ideal.ofBits .bf16 0x0000#16 else scaleAt R6 R7 r l

/-- The word of a zero: nibble `f` of a byte, with the bits of 128 as a bf16. -/
def zeroWord (f : Nat) (b : BitVec 8) : BitVec 32 :=
  (if f = 0 then b.setWidth 32 &&& 15#32 else b.setWidth 32 >>> (4 : Nat)) ||| 17152#32

/-- The zero tables: the word of the zero of group `r / 8` in column group `r % 8`, shifted left by `s`. -/
def zeroTab (s : Nat) (R8 R9 : S24x512.Idx → BitVec 8) (r l : Nat) : BitVec 32 :=
  zeroWord (r / 8 / 24) (at2 (n := 24) (m := 512) (if r % 8 < 4 then R8 else R9) (r / 8 % 24) (128 * (r % 8 % 4) + l)) <<< s

/-- Membership of a scale table's entry in the rows a store of one lane block writes. -/
theorem mem3 (cc : Nat) (inb) (sp) (y : S384x2x128.Idx) (h : (y 0).val % 8 = cc) :
    y ∈ (⟨(⟨![cc, 0, 0], S48x2x128.size, ![8, 1, 1], inb⟩ : LoadRect S384x2x128), sp⟩ : Rect S384x2x128).set := by
  have hy0 : (y 0).val < 384 := (y 0).isLt
  rw [← Rect.map_emb_univ]
  refine Finset.mem_map.mpr ⟨(ix3 (⟨(y 0).val / 8, by omega⟩ : Fin 48) (y 1 : Fin 2) (y 2 : Fin 128) : S48x2x128.Idx), Finset.mem_univ _, ?_⟩
  funext a
  apply Fin.ext
  match a with
  | ⟨0, _⟩ => show cc + 8 * ((y 0).val / 8) = (y 0).val; omega
  | ⟨1, _⟩ => show 0 + 1 * (y 1).val = (y 1).val; omega
  | ⟨2, _⟩ => show 0 + 1 * (y 2).val = (y 2).val; omega

/-- Membership of a zero table's entry in the rows a store of one lane block writes. -/
theorem mem2 (cc o : Nat) (inb) (sp) (y : S384x128.Idx) (h : (y 0).val % 8 = cc) (ho : o ≤ (y 0).val) (hm : ((y 0).val - o) % 8 = 0 ∧ (y 0).val - o < 192) :
    y ∈ (⟨(⟨![o, 0], S24x128.size, ![8, 1], inb⟩ : LoadRect S384x128), sp⟩ : Rect S384x128).set := by
  rw [← Rect.map_emb_univ]
  refine Finset.mem_map.mpr ⟨(ix2 (⟨((y 0).val - o) / 8, by omega⟩ : Fin 24) (y 1 : Fin 128) : S24x128.Idx), Finset.mem_univ _, ?_⟩
  funext a
  apply Fin.ext
  match a with
  | ⟨0, _⟩ => show o + 8 * (((y 0).val - o) / 8) = (y 0).val; omega
  | ⟨1, _⟩ => show 0 + 1 * (y 1).val = (y 1).val; omega

/-- What the low scale table is stored with, entry by entry. -/
theorem pay73_apply (s : Vec Ideal S48x128 .bf16) (x : S48x2x128.Idx) :
    k0_pay73 s x = if (x 1).val = 0 then at2 (n := 48) (m := 128) s (x 0).val (x 2).val else Ideal.ofBits .bf16 0x0000#16 := by
  have hx := (x 0).isLt
  have hx1 : (x 1).val < 2 := (x 1).isLt
  have hx2 := (x 2).isLt
  unfold k0_pay73 k0_pay71
  pointwise
  rcases (by omega : (x 1).val = 0 ∨ (x 1).val = 1) with h | h
  · rw [if_pos (by omega), if_pos h]
    exact at2_of (n := 48) (m := 128) s _ _ _ rfl rfl
  · rw [if_neg (by omega), if_neg (by omega)]

/-- What the high scale table is stored with, entry by entry. -/
theorem pay72_apply (s : Vec Ideal S48x128 .bf16) (x : S48x2x128.Idx) :
    k0_pay72 s x = if (x 1).val = 0 then Ideal.ofBits .bf16 0x0000#16 else at2 (n := 48) (m := 128) s (x 0).val (x 2).val := by
  have hx := (x 0).isLt
  have hx1 : (x 1).val < 2 := (x 1).isLt
  have hx2 := (x 2).isLt
  unfold k0_pay72 k0_pay71
  pointwise
  rcases (by omega : (x 1).val = 0 ∨ (x 1).val = 1) with h | h
  · rw [if_pos (by omega), if_pos h]
  · rw [if_neg (by omega), if_neg (by omega)]
    exact at2_of (n := 48) (m := 128) s _ _ _ rfl rfl

/-- The low nibbles' words in the low half. -/
theorem pay77_apply (z : Vec Ideal S24x128 .i8) (x : S24x128.Idx) : k0_pay77 (F := Ideal) z x = zeroWord 0 (z x) <<< (0 : Nat) := by
  unfold k0_pay77 k0_pay76 k0_pay74
  rw [shapeCast_self, BitVec.shiftLeft_zero]
  rfl
/-- The low nibbles' words in the high half. -/
theorem pay78_apply (z : Vec Ideal S24x128 .i8) (x : S24x128.Idx) : k0_pay78 (F := Ideal) z x = zeroWord 0 (z x) <<< (16 : Nat) := by
  unfold k0_pay78 k0_pay76 k0_pay74
  rw [shapeCast_self]
  rfl
/-- The high nibbles' words in the low half. -/
theorem pay80_apply (z : Vec Ideal S24x128 .i8) (x : S24x128.Idx) :
    k0_pay80 (k0_pay75 (F := Ideal) z) 17152#32 x = zeroWord 1 (z x) <<< (0 : Nat) := by
  unfold k0_pay80 k0_pay79 k0_pay75 k0_pay74
  rw [shapeCast_self, BitVec.shiftLeft_zero]
  rfl
/-- The high nibbles' words in the high half. -/
theorem pay81_apply (z : Vec Ideal S24x128 .i8) (x : S24x128.Idx) :
    k0_pay81 (k0_pay75 (F := Ideal) z) 17152#32 x = zeroWord 1 (z x) <<< (16 : Nat) := by
  unfold k0_pay81 k0_pay79 k0_pay75 k0_pay74
  rw [shapeCast_self]
  rfl

/-- What a store of scales writes into the table for the low rows. -/
theorem lo_ok (cc o : Nat) (hcc : cc < 8) (ho : o = 128 * (cc % 4)) (inb) (sp) (inbA) {aA : Memref sig .tc .vmem S48x512 .bf16}
    (R6 R7 : S48x512.Idx → EReal) (XA : BufTy.Contents (Elt Ideal) aA.view.ty)
    (hA : (if cc < 4 then R6 else R7) = aA.view.read (Elt Ideal) XA) (x : S48x2x128.Idx) :
    k0_pay73 (F := Ideal) (View.readAt (Elt Ideal) aA.view (Rect.unit (s := S48x512) ![0, o] S48x128.size inbA).toLoadRect XA) x
      = loTab R6 R7 ((⟨(⟨![cc, 0, 0], S48x2x128.size, ![8, 1, 1], inb⟩ : LoadRect S384x2x128), sp⟩ : Rect S384x2x128).emb x 0).val
        ((⟨(⟨![cc, 0, 0], S48x2x128.size, ![8, 1, 1], inb⟩ : LoadRect S384x2x128), sp⟩ : Rect S384x2x128).emb x 1).val
        ((⟨(⟨![cc, 0, 0], S48x2x128.size, ![8, 1, 1], inb⟩ : LoadRect S384x2x128), sp⟩ : Rect S384x2x128).emb x 2).val := by
  subst ho
  have hx : (x 0).val < 48 := (x 0).isLt
  have hx2 : (x 2).val < 128 := (x 2).isLt
  have e0 : ((⟨(⟨![cc, 0, 0], S48x2x128.size, ![8, 1, 1], inb⟩ : LoadRect S384x2x128), sp⟩ : Rect S384x2x128).emb x 0).val = cc + 8 * (x 0).val := rfl
  have e1 : ((⟨(⟨![cc, 0, 0], S48x2x128.size, ![8, 1, 1], inb⟩ : LoadRect S384x2x128), sp⟩ : Rect S384x2x128).emb x 1).val = (x 1).val := by
    show 0 + 1 * (x 1).val = _; omega
  have e2 : ((⟨(⟨![cc, 0, 0], S48x2x128.size, ![8, 1, 1], inb⟩ : LoadRect S384x2x128), sp⟩ : Rect S384x2x128).emb x 2).val = (x 2).val := by
    show 0 + 1 * (x 2).val = _; omega
  rw [e0, e1, e2]
  refine (pay73_apply _ x).trans ?_
  unfold loTab scaleAt
  rw [show (cc + 8 * (x 0).val) % 8 = cc by omega, show (cc + 8 * (x 0).val) / 8 = (x 0).val by omega, hA]
  have key : at2 (n := 48) (m := 128) (View.readAt (Elt Ideal) aA.view (Rect.unit (s := S48x512) ![0, 128 * (cc % 4)] S48x128.size inbA).toLoadRect XA) (x 0).val (x 2).val
      = at2 (n := 48) (m := 512) (aA.view.read (Elt Ideal) XA) (x 0).val (128 * (cc % 4) + (x 2).val) := by
    refine at2_of (aA.view.read (Elt Ideal) XA) _ _ _ ?_ ?_
    · show 0 + 1 * ((x 0).val % 48) = _
      omega
    · show 128 * (cc % 4) + 1 * ((x 2).val % 128) = _
      omega
  rw [key]

/-- What a store of scales writes into the table for the high rows. -/
theorem hi_ok (cc o : Nat) (hcc : cc < 8) (ho : o = 128 * (cc % 4)) (inb) (sp) (inbA) {aA : Memref sig .tc .vmem S48x512 .bf16}
    (R6 R7 : S48x512.Idx → EReal) (XA : BufTy.Contents (Elt Ideal) aA.view.ty)
    (hA : (if cc < 4 then R6 else R7) = aA.view.read (Elt Ideal) XA) (x : S48x2x128.Idx) :
    k0_pay72 (F := Ideal) (View.readAt (Elt Ideal) aA.view (Rect.unit (s := S48x512) ![0, o] S48x128.size inbA).toLoadRect XA) x
      = hiTab R6 R7 ((⟨(⟨![cc, 0, 0], S48x2x128.size, ![8, 1, 1], inb⟩ : LoadRect S384x2x128), sp⟩ : Rect S384x2x128).emb x 0).val
        ((⟨(⟨![cc, 0, 0], S48x2x128.size, ![8, 1, 1], inb⟩ : LoadRect S384x2x128), sp⟩ : Rect S384x2x128).emb x 1).val
        ((⟨(⟨![cc, 0, 0], S48x2x128.size, ![8, 1, 1], inb⟩ : LoadRect S384x2x128), sp⟩ : Rect S384x2x128).emb x 2).val := by
  subst ho
  have hx : (x 0).val < 48 := (x 0).isLt
  have hx2 : (x 2).val < 128 := (x 2).isLt
  have e0 : ((⟨(⟨![cc, 0, 0], S48x2x128.size, ![8, 1, 1], inb⟩ : LoadRect S384x2x128), sp⟩ : Rect S384x2x128).emb x 0).val = cc + 8 * (x 0).val := rfl
  have e1 : ((⟨(⟨![cc, 0, 0], S48x2x128.size, ![8, 1, 1], inb⟩ : LoadRect S384x2x128), sp⟩ : Rect S384x2x128).emb x 1).val = (x 1).val := by
    show 0 + 1 * (x 1).val = _; omega
  have e2 : ((⟨(⟨![cc, 0, 0], S48x2x128.size, ![8, 1, 1], inb⟩ : LoadRect S384x2x128), sp⟩ : Rect S384x2x128).emb x 2).val = (x 2).val := by
    show 0 + 1 * (x 2).val = _; omega
  rw [e0, e1, e2]
  refine (pay72_apply _ x).trans ?_
  unfold hiTab scaleAt
  rw [show (cc + 8 * (x 0).val) % 8 = cc by omega, show (cc + 8 * (x 0).val) / 8 = (x 0).val by omega, hA]
  have key : at2 (n := 48) (m := 128) (View.readAt (Elt Ideal) aA.view (Rect.unit (s := S48x512) ![0, 128 * (cc % 4)] S48x128.size inbA).toLoadRect XA) (x 0).val (x 2).val
      = at2 (n := 48) (m := 512) (aA.view.read (Elt Ideal) XA) (x 0).val (128 * (cc % 4) + (x 2).val) := by
    refine at2_of (aA.view.read (Elt Ideal) XA) _ _ _ ?_ ?_
    · show 0 + 1 * ((x 0).val % 48) = _
      omega
    · show 128 * (cc % 4) + 1 * ((x 2).val % 128) = _
      omega
  rw [key]

/-- The store of the low nibbles in the low zero table writes that table's entries. -/
theorem zero0_ok_lo (cc o : Nat) (hcc : cc < 8) (ho : o = 128 * (cc % 4)) (inb) (sp) (inbA) {aA : Memref sig .tc .vmem S24x512 .i8}
    (R8 R9 : S24x512.Idx → BitVec 8) (XA : BufTy.Contents (Elt Ideal) aA.view.ty)
    (hA : (if cc < 4 then R8 else R9) = aA.view.read (Elt Ideal) XA) (x : S24x128.Idx) :
    k0_pay77 (F := Ideal) (View.readAt (Elt Ideal) aA.view (Rect.unit (s := S24x512) ![0, o] S24x128.size inbA).toLoadRect XA) x
      = zeroTab 0 R8 R9 ((⟨(⟨![cc, 0], S24x128.size, ![8, 1], inb⟩ : LoadRect S384x128), sp⟩ : Rect S384x128).emb x 0).val
        ((⟨(⟨![cc, 0], S24x128.size, ![8, 1], inb⟩ : LoadRect S384x128), sp⟩ : Rect S384x128).emb x 1).val := by
  subst ho
  have hx : (x 0).val < 24 := (x 0).isLt
  have hx1 : (x 1).val < 128 := (x 1).isLt
  have e0 : ((⟨(⟨![cc, 0], S24x128.size, ![8, 1], inb⟩ : LoadRect S384x128), sp⟩ : Rect S384x128).emb x 0).val = cc + 8 * (x 0).val := rfl
  have e1 : ((⟨(⟨![cc, 0], S24x128.size, ![8, 1], inb⟩ : LoadRect S384x128), sp⟩ : Rect S384x128).emb x 1).val = (x 1).val := by
    show 0 + 1 * (x 1).val = _; omega
  rw [e0, e1]
  refine (pay77_apply _ x).trans ?_
  unfold zeroTab
  rw [show (cc + 8 * (x 0).val) % 8 = cc by omega, show (cc + 8 * (x 0).val) / 8 / 24 = 0 by omega,
    show (cc + 8 * (x 0).val) / 8 % 24 = (x 0).val by omega, hA]
  refine congrArg (fun b => zeroWord 0 b <<< 0) ?_
  refine at2_of (aA.view.read (Elt Ideal) XA) _ _ _ ?_ ?_
  · show 0 + 1 * (x 0).val = _
    omega
  · show 128 * (cc % 4) + 1 * (x 1).val = _
    omega

/-- The store of the high nibbles in the low zero table writes that table's entries. -/
theorem zero0_ok_hi (cc o : Nat) (hcc : cc < 8) (ho : o = 128 * (cc % 4)) (inb) (sp) (inbA) {aA : Memref sig .tc .vmem S24x512 .i8}
    (R8 R9 : S24x512.Idx → BitVec 8) (XA : BufTy.Contents (Elt Ideal) aA.view.ty)
    (hA : (if cc < 4 then R8 else R9) = aA.view.read (Elt Ideal) XA) (x : S24x128.Idx) :
    k0_pay80 (k0_pay75 (F := Ideal) (View.readAt (Elt Ideal) aA.view (Rect.unit (s := S24x512) ![0, o] S24x128.size inbA).toLoadRect XA)) 17152#32 x
      = zeroTab 0 R8 R9 ((⟨(⟨![(cc + 192), 0], S24x128.size, ![8, 1], inb⟩ : LoadRect S384x128), sp⟩ : Rect S384x128).emb x 0).val
        ((⟨(⟨![(cc + 192), 0], S24x128.size, ![8, 1], inb⟩ : LoadRect S384x128), sp⟩ : Rect S384x128).emb x 1).val := by
  subst ho
  have hx : (x 0).val < 24 := (x 0).isLt
  have hx1 : (x 1).val < 128 := (x 1).isLt
  have e0 : ((⟨(⟨![(cc + 192), 0], S24x128.size, ![8, 1], inb⟩ : LoadRect S384x128), sp⟩ : Rect S384x128).emb x 0).val = (cc + 192) + 8 * (x 0).val := rfl
  have e1 : ((⟨(⟨![(cc + 192), 0], S24x128.size, ![8, 1], inb⟩ : LoadRect S384x128), sp⟩ : Rect S384x128).emb x 1).val = (x 1).val := by
    show 0 + 1 * (x 1).val = _; omega
  rw [e0, e1]
  refine (pay80_apply _ x).trans ?_
  unfold zeroTab
  rw [show ((cc + 192) + 8 * (x 0).val) % 8 = cc by omega, show ((cc + 192) + 8 * (x 0).val) / 8 / 24 = 1 by omega,
    show ((cc + 192) + 8 * (x 0).val) / 8 % 24 = (x 0).val by omega, hA]
  refine congrArg (fun b => zeroWord 1 b <<< 0) ?_
  refine at2_of (aA.view.read (Elt Ideal) XA) _ _ _ ?_ ?_
  · show 0 + 1 * (x 0).val = _
    omega
  · show 128 * (cc % 4) + 1 * (x 1).val = _
    omega

/-- The store of the low nibbles in the high zero table writes that table's entries. -/
theorem zero16_ok_lo (cc o : Nat) (hcc : cc < 8) (ho : o = 128 * (cc % 4)) (inb) (sp) (inbA) {aA : Memref sig .tc .vmem S24x512 .i8}
    (R8 R9 : S24x512.Idx → BitVec 8) (XA : BufTy.Contents (Elt Ideal) aA.view.ty)
    (hA : (if cc < 4 then R8 else R9) = aA.view.read (Elt Ideal) XA) (x : S24x128.Idx) :
    k0_pay78 (F := Ideal) (View.readAt (Elt Ideal) aA.view (Rect.unit (s := S24x512) ![0, o] S24x128.size inbA).toLoadRect XA) x
      = zeroTab 16 R8 R9 ((⟨(⟨![cc, 0], S24x128.size, ![8, 1], inb⟩ : LoadRect S384x128), sp⟩ : Rect S384x128).emb x 0).val
        ((⟨(⟨![cc, 0], S24x128.size, ![8, 1], inb⟩ : LoadRect S384x128), sp⟩ : Rect S384x128).emb x 1).val := by
  subst ho
  have hx : (x 0).val < 24 := (x 0).isLt
  have hx1 : (x 1).val < 128 := (x 1).isLt
  have e0 : ((⟨(⟨![cc, 0], S24x128.size, ![8, 1], inb⟩ : LoadRect S384x128), sp⟩ : Rect S384x128).emb x 0).val = cc + 8 * (x 0).val := rfl
  have e1 : ((⟨(⟨![cc, 0], S24x128.size, ![8, 1], inb⟩ : LoadRect S384x128), sp⟩ : Rect S384x128).emb x 1).val = (x 1).val := by
    show 0 + 1 * (x 1).val = _; omega
  rw [e0, e1]
  refine (pay78_apply _ x).trans ?_
  unfold zeroTab
  rw [show (cc + 8 * (x 0).val) % 8 = cc by omega, show (cc + 8 * (x 0).val) / 8 / 24 = 0 by omega,
    show (cc + 8 * (x 0).val) / 8 % 24 = (x 0).val by omega, hA]
  refine congrArg (fun b => zeroWord 0 b <<< 16) ?_
  refine at2_of (aA.view.read (Elt Ideal) XA) _ _ _ ?_ ?_
  · show 0 + 1 * (x 0).val = _
    omega
  · show 128 * (cc % 4) + 1 * (x 1).val = _
    omega

/-- The store of the high nibbles in the high zero table writes that table's entries. -/
theorem zero16_ok_hi (cc o : Nat) (hcc : cc < 8) (ho : o = 128 * (cc % 4)) (inb) (sp) (inbA) {aA : Memref sig .tc .vmem S24x512 .i8}
    (R8 R9 : S24x512.Idx → BitVec 8) (XA : BufTy.Contents (Elt Ideal) aA.view.ty)
    (hA : (if cc < 4 then R8 else R9) = aA.view.read (Elt Ideal) XA) (x : S24x128.Idx) :
    k0_pay81 (k0_pay75 (F := Ideal) (View.readAt (Elt Ideal) aA.view (Rect.unit (s := S24x512) ![0, o] S24x128.size inbA).toLoadRect XA)) 17152#32 x
      = zeroTab 16 R8 R9 ((⟨(⟨![(cc + 192), 0], S24x128.size, ![8, 1], inb⟩ : LoadRect S384x128), sp⟩ : Rect S384x128).emb x 0).val
        ((⟨(⟨![(cc + 192), 0], S24x128.size, ![8, 1], inb⟩ : LoadRect S384x128), sp⟩ : Rect S384x128).emb x 1).val := by
  subst ho
  have hx : (x 0).val < 24 := (x 0).isLt
  have hx1 : (x 1).val < 128 := (x 1).isLt
  have e0 : ((⟨(⟨![(cc + 192), 0], S24x128.size, ![8, 1], inb⟩ : LoadRect S384x128), sp⟩ : Rect S384x128).emb x 0).val = (cc + 192) + 8 * (x 0).val := rfl
  have e1 : ((⟨(⟨![(cc + 192), 0], S24x128.size, ![8, 1], inb⟩ : LoadRect S384x128), sp⟩ : Rect S384x128).emb x 1).val = (x 1).val := by
    show 0 + 1 * (x 1).val = _; omega
  rw [e0, e1]
  refine (pay81_apply _ x).trans ?_
  unfold zeroTab
  rw [show ((cc + 192) + 8 * (x 0).val) % 8 = cc by omega, show ((cc + 192) + 8 * (x 0).val) / 8 / 24 = 1 by omega,
    show ((cc + 192) + 8 * (x 0).val) / 8 % 24 = (x 0).val by omega, hA]
  refine congrArg (fun b => zeroWord 1 b <<< 16) ?_
  refine at2_of (aA.view.read (Elt Ideal) XA) _ _ _ ?_ ?_
  · show 0 + 1 * (x 0).val = _
    omega
  · show 128 * (cc % 4) + 1 * (x 1).val = _
    omega

set_option maxHeartbeats 1000000 in
/-- The scale table for the low rows, after the eight stores: entry by entry. -/
theorem tab12_read {a6 a7 : Memref sig .tc .vmem S48x512 .bf16} (v : View sig .tc .vmem S384x2x128 .bf16)
    (X6 : BufTy.Contents (Elt Ideal) a6.view.ty) (X7 : BufTy.Contents (Elt Ideal) a7.view.ty) (f : BufTy.Contents (Elt Ideal) v.ty)
    (y : S384x2x128.Idx) :
    v.read (Elt Ideal) (v.writes (Elt Ideal) f
     [⟨(⟨(⟨![7, 0, 0], S48x2x128.size, ![8, 1, 1], inb_S384x2x128_S48x2x128_7_0_0_s_8_1_1⟩ : LoadRect S384x2x128), spos_8_1_1⟩ : Rect S384x2x128), k0_pay73 (F := Ideal) (View.readAt (Elt Ideal) a7.view (Rect.unit (s := S48x512) ![0, 384] S48x128.size inb_S48x512_S48x128_0_384).toLoadRect X7)⟩,
      ⟨(⟨(⟨![6, 0, 0], S48x2x128.size, ![8, 1, 1], inb_S384x2x128_S48x2x128_6_0_0_s_8_1_1⟩ : LoadRect S384x2x128), spos_8_1_1⟩ : Rect S384x2x128), k0_pay73 (F := Ideal) (View.readAt (Elt Ideal) a7.view (Rect.unit (s := S48x512) ![0, 256] S48x128.size inb_S48x512_S48x128_0_256).toLoadRect X7)⟩,
      ⟨(⟨(⟨![5, 0, 0], S48x2x128.size, ![8, 1, 1], inb_S384x2x128_S48x2x128_5_0_0_s_8_1_1⟩ : LoadRect S384x2x128), spos_8_1_1⟩ : Rect S384x2x128), k0_pay73 (F := Ideal) (View.readAt (Elt Ideal) a7.view (Rect.unit (s := S48x512) ![0, 128] S48x128.size inb_S48x512_S48x128_0_128).toLoadRect X7)⟩,
      ⟨(⟨(⟨![4, 0, 0], S48x2x128.size, ![8, 1, 1], inb_S384x2x128_S48x2x128_4_0_0_s_8_1_1⟩ : LoadRect S384x2x128), spos_8_1_1⟩ : Rect S384x2x128), k0_pay73 (F := Ideal) (View.readAt (Elt Ideal) a7.view (Rect.unit (s := S48x512) ![0, 0] S48x128.size inb_S48x512_S48x128_0_0).toLoadRect X7)⟩,
      ⟨(⟨(⟨![3, 0, 0], S48x2x128.size, ![8, 1, 1], inb_S384x2x128_S48x2x128_3_0_0_s_8_1_1⟩ : LoadRect S384x2x128), spos_8_1_1⟩ : Rect S384x2x128), k0_pay73 (F := Ideal) (View.readAt (Elt Ideal) a6.view (Rect.unit (s := S48x512) ![0, 384] S48x128.size inb_S48x512_S48x128_0_384).toLoadRect X6)⟩,
      ⟨(⟨(⟨![2, 0, 0], S48x2x128.size, ![8, 1, 1], inb_S384x2x128_S48x2x128_2_0_0_s_8_1_1⟩ : LoadRect S384x2x128), spos_8_1_1⟩ : Rect S384x2x128), k0_pay73 (F := Ideal) (View.readAt (Elt Ideal) a6.view (Rect.unit (s := S48x512) ![0, 256] S48x128.size inb_S48x512_S48x128_0_256).toLoadRect X6)⟩,
      ⟨(⟨(⟨![1, 0, 0], S48x2x128.size, ![8, 1, 1], inb_S384x2x128_S48x2x128_1_0_0_s_8_1_1⟩ : LoadRect S384x2x128), spos_8_1_1⟩ : Rect S384x2x128), k0_pay73 (F := Ideal) (View.readAt (Elt Ideal) a6.view (Rect.unit (s := S48x512) ![0, 128] S48x128.size inb_S48x512_S48x128_0_128).toLoadRect X6)⟩,
      ⟨(⟨(⟨![0, 0, 0], S48x2x128.size, ![8, 1, 1], inb_S384x2x128_S48x2x128_0_0_0_s_8_1_1⟩ : LoadRect S384x2x128), spos_8_1_1⟩ : Rect S384x2x128), k0_pay73 (F := Ideal) (View.readAt (Elt Ideal) a6.view (Rect.unit (s := S48x512) ![0, 0] S48x128.size inb_S48x512_S48x128_0_0).toLoadRect X6)⟩]) y
      = loTab (a6.view.read (Elt Ideal) X6) (a7.view.read (Elt Ideal) X7) (y 0).val (y 1).val (y 2).val := by
  refine read_writes_of_pieces v f (fun y => loTab (a6.view.read (Elt Ideal) X6) (a7.view.read (Elt Ideal) X7) (y 0).val (y 1).val (y 2).val) _ ?_ y (.inl ?_)
  · intro p hp x
    simp only [List.mem_cons, List.not_mem_nil, or_false] at hp
    rcases hp with rfl|rfl|rfl|rfl|rfl|rfl|rfl|rfl
    · exact lo_ok 7 384 (by decide) (by decide) _ _ _ _ _ X7 rfl x
    · exact lo_ok 6 256 (by decide) (by decide) _ _ _ _ _ X7 rfl x
    · exact lo_ok 5 128 (by decide) (by decide) _ _ _ _ _ X7 rfl x
    · exact lo_ok 4 0 (by decide) (by decide) _ _ _ _ _ X7 rfl x
    · exact lo_ok 3 384 (by decide) (by decide) _ _ _ _ _ X6 rfl x
    · exact lo_ok 2 256 (by decide) (by decide) _ _ _ _ _ X6 rfl x
    · exact lo_ok 1 128 (by decide) (by decide) _ _ _ _ _ X6 rfl x
    · exact lo_ok 0 0 (by decide) (by decide) _ _ _ _ _ X6 rfl x
  · have hy : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases hy with h|h|h|h|h|h|h|h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem3 0 _ _ y h⟩
    · exact ⟨_, List.mem_cons_of_mem _ (List.mem_cons_of_mem _ (List.mem_cons_of_mem _ (List.mem_cons_of_mem _ (List.mem_cons_of_mem _ (List.mem_cons_of_mem _ (List.mem_cons_self)))))), mem3 1 _ _ y h⟩
    · exact ⟨_, List.mem_cons_of_mem _ (List.mem_cons_of_mem _ (List.mem_cons_of_mem _ (List.mem_cons_of_mem _ (List.mem_cons_of_mem _ (List.mem_cons_self))))), mem3 2 _ _ y h⟩
    · exact ⟨_, List.mem_cons_of_mem _ (List.mem_cons_of_mem _ (List.mem_cons_of_mem _ (List.mem_cons_of_mem _ (List.mem_cons_self)))), mem3 3 _ _ y h⟩
    · exact ⟨_, List.mem_cons_of_mem _ (List.mem_cons_of_mem _ (List.mem_cons_of_mem _ (List.mem_cons_self))), mem3 4 _ _ y h⟩
    · exact ⟨_, List.mem_cons_of_mem _ (List.mem_cons_of_mem _ (List.mem_cons_self)), mem3 5 _ _ y h⟩
    · exact ⟨_, List.mem_cons_of_mem _ (List.mem_cons_self), mem3 6 _ _ y h⟩
    · exact ⟨_, List.mem_cons_self, mem3 7 _ _ y h⟩

set_option maxHeartbeats 1000000 in
/-- The scale table for the high rows, after the eight stores: entry by entry. -/
theorem tab13_read {a6 a7 : Memref sig .tc .vmem S48x512 .bf16} (v : View sig .tc .vmem S384x2x128 .bf16)
    (X6 : BufTy.Contents (Elt Ideal) a6.view.ty) (X7 : BufTy.Contents (Elt Ideal) a7.view.ty) (f : BufTy.Contents (Elt Ideal) v.ty)
    (y : S384x2x128.Idx) :
    v.read (Elt Ideal) (v.writes (Elt Ideal) f
     [⟨(⟨(⟨![7, 0, 0], S48x2x128.size, ![8, 1, 1], inb_S384x2x128_S48x2x128_7_0_0_s_8_1_1⟩ : LoadRect S384x2x128), spos_8_1_1⟩ : Rect S384x2x128), k0_pay72 (F := Ideal) (View.readAt (Elt Ideal) a7.view (Rect.unit (s := S48x512) ![0, 384] S48x128.size inb_S48x512_S48x128_0_384).toLoadRect X7)⟩,
      ⟨(⟨(⟨![6, 0, 0], S48x2x128.size, ![8, 1, 1], inb_S384x2x128_S48x2x128_6_0_0_s_8_1_1⟩ : LoadRect S384x2x128), spos_8_1_1⟩ : Rect S384x2x128), k0_pay72 (F := Ideal) (View.readAt (Elt Ideal) a7.view (Rect.unit (s := S48x512) ![0, 256] S48x128.size inb_S48x512_S48x128_0_256).toLoadRect X7)⟩,
      ⟨(⟨(⟨![5, 0, 0], S48x2x128.size, ![8, 1, 1], inb_S384x2x128_S48x2x128_5_0_0_s_8_1_1⟩ : LoadRect S384x2x128), spos_8_1_1⟩ : Rect S384x2x128), k0_pay72 (F := Ideal) (View.readAt (Elt Ideal) a7.view (Rect.unit (s := S48x512) ![0, 128] S48x128.size inb_S48x512_S48x128_0_128).toLoadRect X7)⟩,
      ⟨(⟨(⟨![4, 0, 0], S48x2x128.size, ![8, 1, 1], inb_S384x2x128_S48x2x128_4_0_0_s_8_1_1⟩ : LoadRect S384x2x128), spos_8_1_1⟩ : Rect S384x2x128), k0_pay72 (F := Ideal) (View.readAt (Elt Ideal) a7.view (Rect.unit (s := S48x512) ![0, 0] S48x128.size inb_S48x512_S48x128_0_0).toLoadRect X7)⟩,
      ⟨(⟨(⟨![3, 0, 0], S48x2x128.size, ![8, 1, 1], inb_S384x2x128_S48x2x128_3_0_0_s_8_1_1⟩ : LoadRect S384x2x128), spos_8_1_1⟩ : Rect S384x2x128), k0_pay72 (F := Ideal) (View.readAt (Elt Ideal) a6.view (Rect.unit (s := S48x512) ![0, 384] S48x128.size inb_S48x512_S48x128_0_384).toLoadRect X6)⟩,
      ⟨(⟨(⟨![2, 0, 0], S48x2x128.size, ![8, 1, 1], inb_S384x2x128_S48x2x128_2_0_0_s_8_1_1⟩ : LoadRect S384x2x128), spos_8_1_1⟩ : Rect S384x2x128), k0_pay72 (F := Ideal) (View.readAt (Elt Ideal) a6.view (Rect.unit (s := S48x512) ![0, 256] S48x128.size inb_S48x512_S48x128_0_256).toLoadRect X6)⟩,
      ⟨(⟨(⟨![1, 0, 0], S48x2x128.size, ![8, 1, 1], inb_S384x2x128_S48x2x128_1_0_0_s_8_1_1⟩ : LoadRect S384x2x128), spos_8_1_1⟩ : Rect S384x2x128), k0_pay72 (F := Ideal) (View.readAt (Elt Ideal) a6.view (Rect.unit (s := S48x512) ![0, 128] S48x128.size inb_S48x512_S48x128_0_128).toLoadRect X6)⟩,
      ⟨(⟨(⟨![0, 0, 0], S48x2x128.size, ![8, 1, 1], inb_S384x2x128_S48x2x128_0_0_0_s_8_1_1⟩ : LoadRect S384x2x128), spos_8_1_1⟩ : Rect S384x2x128), k0_pay72 (F := Ideal) (View.readAt (Elt Ideal) a6.view (Rect.unit (s := S48x512) ![0, 0] S48x128.size inb_S48x512_S48x128_0_0).toLoadRect X6)⟩]) y
      = hiTab (a6.view.read (Elt Ideal) X6) (a7.view.read (Elt Ideal) X7) (y 0).val (y 1).val (y 2).val := by
  refine read_writes_of_pieces v f (fun y => hiTab (a6.view.read (Elt Ideal) X6) (a7.view.read (Elt Ideal) X7) (y 0).val (y 1).val (y 2).val) _ ?_ y (.inl ?_)
  · intro p hp x
    simp only [List.mem_cons, List.not_mem_nil, or_false] at hp
    rcases hp with rfl|rfl|rfl|rfl|rfl|rfl|rfl|rfl
    · exact hi_ok 7 384 (by decide) (by decide) _ _ _ _ _ X7 rfl x
    · exact hi_ok 6 256 (by decide) (by decide) _ _ _ _ _ X7 rfl x
    · exact hi_ok 5 128 (by decide) (by decide) _ _ _ _ _ X7 rfl x
    · exact hi_ok 4 0 (by decide) (by decide) _ _ _ _ _ X7 rfl x
    · exact hi_ok 3 384 (by decide) (by decide) _ _ _ _ _ X6 rfl x
    · exact hi_ok 2 256 (by decide) (by decide) _ _ _ _ _ X6 rfl x
    · exact hi_ok 1 128 (by decide) (by decide) _ _ _ _ _ X6 rfl x
    · exact hi_ok 0 0 (by decide) (by decide) _ _ _ _ _ X6 rfl x
  · have hy : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    rcases hy with h|h|h|h|h|h|h|h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem3 0 _ _ y h⟩
    · exact ⟨_, List.mem_cons_of_mem _ (List.mem_cons_of_mem _ (List.mem_cons_of_mem _ (List.mem_cons_of_mem _ (List.mem_cons_of_mem _ (List.mem_cons_of_mem _ (List.mem_cons_self)))))), mem3 1 _ _ y h⟩
    · exact ⟨_, List.mem_cons_of_mem _ (List.mem_cons_of_mem _ (List.mem_cons_of_mem _ (List.mem_cons_of_mem _ (List.mem_cons_of_mem _ (List.mem_cons_self))))), mem3 2 _ _ y h⟩
    · exact ⟨_, List.mem_cons_of_mem _ (List.mem_cons_of_mem _ (List.mem_cons_of_mem _ (List.mem_cons_of_mem _ (List.mem_cons_self)))), mem3 3 _ _ y h⟩
    · exact ⟨_, List.mem_cons_of_mem _ (List.mem_cons_of_mem _ (List.mem_cons_of_mem _ (List.mem_cons_self))), mem3 4 _ _ y h⟩
    · exact ⟨_, List.mem_cons_of_mem _ (List.mem_cons_of_mem _ (List.mem_cons_self)), mem3 5 _ _ y h⟩
    · exact ⟨_, List.mem_cons_of_mem _ (List.mem_cons_self), mem3 6 _ _ y h⟩
    · exact ⟨_, List.mem_cons_self, mem3 7 _ _ y h⟩

set_option maxHeartbeats 2000000 in
/-- The zero table with the words shifted by 0, after the sixteen stores: entry by entry. -/
theorem tab14_read {a8 a9 : Memref sig .tc .vmem S24x512 .i8} (v : View sig .tc .vmem S384x128 .i32)
    (X8 : BufTy.Contents (Elt Ideal) a8.view.ty) (X9 : BufTy.Contents (Elt Ideal) a9.view.ty) (f : BufTy.Contents (Elt Ideal) v.ty)
    (y : S384x128.Idx) :
    v.read (Elt Ideal) (v.writes (Elt Ideal) f
     [⟨(⟨(⟨![199, 0], S24x128.size, ![8, 1], inb_S384x128_S24x128_199_0_s_8_1⟩ : LoadRect S384x128), spos_8_1⟩ : Rect S384x128), k0_pay80 (k0_pay75 (F := Ideal) (View.readAt (Elt Ideal) a9.view (Rect.unit (s := S24x512) ![0, 384] S24x128.size inb_S24x512_S24x128_0_384).toLoadRect X9)) 17152#32⟩,
      ⟨(⟨(⟨![7, 0], S24x128.size, ![8, 1], inb_S384x128_S24x128_7_0_s_8_1⟩ : LoadRect S384x128), spos_8_1⟩ : Rect S384x128), k0_pay77 (F := Ideal) (View.readAt (Elt Ideal) a9.view (Rect.unit (s := S24x512) ![0, 384] S24x128.size inb_S24x512_S24x128_0_384).toLoadRect X9)⟩,
      ⟨(⟨(⟨![198, 0], S24x128.size, ![8, 1], inb_S384x128_S24x128_198_0_s_8_1⟩ : LoadRect S384x128), spos_8_1⟩ : Rect S384x128), k0_pay80 (k0_pay75 (F := Ideal) (View.readAt (Elt Ideal) a9.view (Rect.unit (s := S24x512) ![0, 256] S24x128.size inb_S24x512_S24x128_0_256).toLoadRect X9)) 17152#32⟩,
      ⟨(⟨(⟨![6, 0], S24x128.size, ![8, 1], inb_S384x128_S24x128_6_0_s_8_1⟩ : LoadRect S384x128), spos_8_1⟩ : Rect S384x128), k0_pay77 (F := Ideal) (View.readAt (Elt Ideal) a9.view (Rect.unit (s := S24x512) ![0, 256] S24x128.size inb_S24x512_S24x128_0_256).toLoadRect X9)⟩,
      ⟨(⟨(⟨![197, 0], S24x128.size, ![8, 1], inb_S384x128_S24x128_197_0_s_8_1⟩ : LoadRect S384x128), spos_8_1⟩ : Rect S384x128), k0_pay80 (k0_pay75 (F := Ideal) (View.readAt (Elt Ideal) a9.view (Rect.unit (s := S24x512) ![0, 128] S24x128.size inb_S24x512_S24x128_0_128).toLoadRect X9)) 17152#32⟩,
      ⟨(⟨(⟨![5, 0], S24x128.size, ![8, 1], inb_S384x128_S24x128_5_0_s_8_1⟩ : LoadRect S384x128), spos_8_1⟩ : Rect S384x128), k0_pay77 (F := Ideal) (View.readAt (Elt Ideal) a9.view (Rect.unit (s := S24x512) ![0, 128] S24x128.size inb_S24x512_S24x128_0_128).toLoadRect X9)⟩,
      ⟨(⟨(⟨![196, 0], S24x128.size, ![8, 1], inb_S384x128_S24x128_196_0_s_8_1⟩ : LoadRect S384x128), spos_8_1⟩ : Rect S384x128), k0_pay80 (k0_pay75 (F := Ideal) (View.readAt (Elt Ideal) a9.view (Rect.unit (s := S24x512) ![0, 0] S24x128.size inb_S24x512_S24x128_0_0).toLoadRect X9)) 17152#32⟩,
      ⟨(⟨(⟨![4, 0], S24x128.size, ![8, 1], inb_S384x128_S24x128_4_0_s_8_1⟩ : LoadRect S384x128), spos_8_1⟩ : Rect S384x128), k0_pay77 (F := Ideal) (View.readAt (Elt Ideal) a9.view (Rect.unit (s := S24x512) ![0, 0] S24x128.size inb_S24x512_S24x128_0_0).toLoadRect X9)⟩,
      ⟨(⟨(⟨![195, 0], S24x128.size, ![8, 1], inb_S384x128_S24x128_195_0_s_8_1⟩ : LoadRect S384x128), spos_8_1⟩ : Rect S384x128), k0_pay80 (k0_pay75 (F := Ideal) (View.readAt (Elt Ideal) a8.view (Rect.unit (s := S24x512) ![0, 384] S24x128.size inb_S24x512_S24x128_0_384).toLoadRect X8)) 17152#32⟩,
      ⟨(⟨(⟨![3, 0], S24x128.size, ![8, 1], inb_S384x128_S24x128_3_0_s_8_1⟩ : LoadRect S384x128), spos_8_1⟩ : Rect S384x128), k0_pay77 (F := Ideal) (View.readAt (Elt Ideal) a8.view (Rect.unit (s := S24x512) ![0, 384] S24x128.size inb_S24x512_S24x128_0_384).toLoadRect X8)⟩,
      ⟨(⟨(⟨![194, 0], S24x128.size, ![8, 1], inb_S384x128_S24x128_194_0_s_8_1⟩ : LoadRect S384x128), spos_8_1⟩ : Rect S384x128), k0_pay80 (k0_pay75 (F := Ideal) (View.readAt (Elt Ideal) a8.view (Rect.unit (s := S24x512) ![0, 256] S24x128.size inb_S24x512_S24x128_0_256).toLoadRect X8)) 17152#32⟩,
      ⟨(⟨(⟨![2, 0], S24x128.size, ![8, 1], inb_S384x128_S24x128_2_0_s_8_1⟩ : LoadRect S384x128), spos_8_1⟩ : Rect S384x128), k0_pay77 (F := Ideal) (View.readAt (Elt Ideal) a8.view (Rect.unit (s := S24x512) ![0, 256] S24x128.size inb_S24x512_S24x128_0_256).toLoadRect X8)⟩,
      ⟨(⟨(⟨![193, 0], S24x128.size, ![8, 1], inb_S384x128_S24x128_193_0_s_8_1⟩ : LoadRect S384x128), spos_8_1⟩ : Rect S384x128), k0_pay80 (k0_pay75 (F := Ideal) (View.readAt (Elt Ideal) a8.view (Rect.unit (s := S24x512) ![0, 128] S24x128.size inb_S24x512_S24x128_0_128).toLoadRect X8)) 17152#32⟩,
      ⟨(⟨(⟨![1, 0], S24x128.size, ![8, 1], inb_S384x128_S24x128_1_0_s_8_1⟩ : LoadRect S384x128), spos_8_1⟩ : Rect S384x128), k0_pay77 (F := Ideal) (View.readAt (Elt Ideal) a8.view (Rect.unit (s := S24x512) ![0, 128] S24x128.size inb_S24x512_S24x128_0_128).toLoadRect X8)⟩,
      ⟨(⟨(⟨![192, 0], S24x128.size, ![8, 1], inb_S384x128_S24x128_192_0_s_8_1⟩ : LoadRect S384x128), spos_8_1⟩ : Rect S384x128), k0_pay80 (k0_pay75 (F := Ideal) (View.readAt (Elt Ideal) a8.view (Rect.unit (s := S24x512) ![0, 0] S24x128.size inb_S24x512_S24x128_0_0).toLoadRect X8)) 17152#32⟩,
      ⟨(⟨(⟨![0, 0], S24x128.size, ![8, 1], inb_S384x128_S24x128_0_0_s_8_1⟩ : LoadRect S384x128), spos_8_1⟩ : Rect S384x128), k0_pay77 (F := Ideal) (View.readAt (Elt Ideal) a8.view (Rect.unit (s := S24x512) ![0, 0] S24x128.size inb_S24x512_S24x128_0_0).toLoadRect X8)⟩]) y
      = zeroTab 0 (a8.view.read (Elt Ideal) X8) (a9.view.read (Elt Ideal) X9) (y 0).val (y 1).val := by
  refine read_writes_of_pieces v f (fun y => zeroTab 0 (a8.view.read (Elt Ideal) X8) (a9.view.read (Elt Ideal) X9) (y 0).val (y 1).val) _ ?_ y (.inl ?_)
  · intro p hp x
    simp only [List.mem_cons, List.not_mem_nil, or_false] at hp
    rcases hp with rfl|rfl|rfl|rfl|rfl|rfl|rfl|rfl|rfl|rfl|rfl|rfl|rfl|rfl|rfl|rfl
    · exact zero0_ok_hi 7 384 (by decide) (by decide) _ _ _ _ _ X9 rfl x
    · exact zero0_ok_lo 7 384 (by decide) (by decide) _ _ _ _ _ X9 rfl x
    · exact zero0_ok_hi 6 256 (by decide) (by decide) _ _ _ _ _ X9 rfl x
    · exact zero0_ok_lo 6 256 (by decide) (by decide) _ _ _ _ _ X9 rfl x
    · exact zero0_ok_hi 5 128 (by decide) (by decide) _ _ _ _ _ X9 rfl x
    · exact zero0_ok_lo 5 128 (by decide) (by decide) _ _ _ _ _ X9 rfl x
    · exact zero0_ok_hi 4 0 (by decide) (by decide) _ _ _ _ _ X9 rfl x
    · exact zero0_ok_lo 4 0 (by decide) (by decide) _ _ _ _ _ X9 rfl x
    · exact zero0_ok_hi 3 384 (by decide) (by decide) _ _ _ _ _ X8 rfl x
    · exact zero0_ok_lo 3 384 (by decide) (by decide) _ _ _ _ _ X8 rfl x
    · exact zero0_ok_hi 2 256 (by decide) (by decide) _ _ _ _ _ X8 rfl x
    · exact zero0_ok_lo 2 256 (by decide) (by decide) _ _ _ _ _ X8 rfl x
    · exact zero0_ok_hi 1 128 (by decide) (by decide) _ _ _ _ _ X8 rfl x
    · exact zero0_ok_lo 1 128 (by decide) (by decide) _ _ _ _ _ X8 rfl x
    · exact zero0_ok_hi 0 0 (by decide) (by decide) _ _ _ _ _ X8 rfl x
    · exact zero0_ok_lo 0 0 (by decide) (by decide) _ _ _ _ _ X8 rfl x
  · have hy : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    have hy0 : (y 0).val < 384 := (y 0).isLt
    rcases hy with h|h|h|h|h|h|h|h
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem2 0 0 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem2 0 192 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem2 1 1 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem2 1 193 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem2 2 2 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem2 2 194 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem2 3 3 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem2 3 195 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem2 4 4 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem2 4 196 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_self))))), mem2 5 5 _ _ y (by omega) (by omega) (by omega)⟩
      · exact ⟨_, List.mem_cons_of_mem _ (List.mem_cons_of_mem _ (List.mem_cons_of_mem _ (List.mem_cons_of_mem _ (List.mem_cons_self)))), mem2 5 197 _ _ y (by omega) (by omega) (by omega)⟩
    · by_cases g : (y 0).val < 192
      · exact ⟨_, List.mem_cons_of_mem _ (List.mem_cons_of_mem _ (List.mem_cons_of_mem _ (List.mem_cons_self))), mem2 6 6 _ _ y (by omega) (by omega) (by omega)⟩
      · exact ⟨_, List.mem_cons_of_mem _ (List.mem_cons_of_mem _ (List.mem_cons_self)), mem2 6 198 _ _ y (by omega) (by omega) (by omega)⟩
    · by_cases g : (y 0).val < 192
      · exact ⟨_, List.mem_cons_of_mem _ (List.mem_cons_self), mem2 7 7 _ _ y (by omega) (by omega) (by omega)⟩
      · exact ⟨_, List.mem_cons_self, mem2 7 199 _ _ y (by omega) (by omega) (by omega)⟩

set_option maxHeartbeats 2000000 in
/-- The zero table with the words shifted by 16, after the sixteen stores: entry by entry. -/
theorem tab15_read {a8 a9 : Memref sig .tc .vmem S24x512 .i8} (v : View sig .tc .vmem S384x128 .i32)
    (X8 : BufTy.Contents (Elt Ideal) a8.view.ty) (X9 : BufTy.Contents (Elt Ideal) a9.view.ty) (f : BufTy.Contents (Elt Ideal) v.ty)
    (y : S384x128.Idx) :
    v.read (Elt Ideal) (v.writes (Elt Ideal) f
     [⟨(⟨(⟨![199, 0], S24x128.size, ![8, 1], inb_S384x128_S24x128_199_0_s_8_1⟩ : LoadRect S384x128), spos_8_1⟩ : Rect S384x128), k0_pay81 (k0_pay75 (F := Ideal) (View.readAt (Elt Ideal) a9.view (Rect.unit (s := S24x512) ![0, 384] S24x128.size inb_S24x512_S24x128_0_384).toLoadRect X9)) 17152#32⟩,
      ⟨(⟨(⟨![7, 0], S24x128.size, ![8, 1], inb_S384x128_S24x128_7_0_s_8_1⟩ : LoadRect S384x128), spos_8_1⟩ : Rect S384x128), k0_pay78 (F := Ideal) (View.readAt (Elt Ideal) a9.view (Rect.unit (s := S24x512) ![0, 384] S24x128.size inb_S24x512_S24x128_0_384).toLoadRect X9)⟩,
      ⟨(⟨(⟨![198, 0], S24x128.size, ![8, 1], inb_S384x128_S24x128_198_0_s_8_1⟩ : LoadRect S384x128), spos_8_1⟩ : Rect S384x128), k0_pay81 (k0_pay75 (F := Ideal) (View.readAt (Elt Ideal) a9.view (Rect.unit (s := S24x512) ![0, 256] S24x128.size inb_S24x512_S24x128_0_256).toLoadRect X9)) 17152#32⟩,
      ⟨(⟨(⟨![6, 0], S24x128.size, ![8, 1], inb_S384x128_S24x128_6_0_s_8_1⟩ : LoadRect S384x128), spos_8_1⟩ : Rect S384x128), k0_pay78 (F := Ideal) (View.readAt (Elt Ideal) a9.view (Rect.unit (s := S24x512) ![0, 256] S24x128.size inb_S24x512_S24x128_0_256).toLoadRect X9)⟩,
      ⟨(⟨(⟨![197, 0], S24x128.size, ![8, 1], inb_S384x128_S24x128_197_0_s_8_1⟩ : LoadRect S384x128), spos_8_1⟩ : Rect S384x128), k0_pay81 (k0_pay75 (F := Ideal) (View.readAt (Elt Ideal) a9.view (Rect.unit (s := S24x512) ![0, 128] S24x128.size inb_S24x512_S24x128_0_128).toLoadRect X9)) 17152#32⟩,
      ⟨(⟨(⟨![5, 0], S24x128.size, ![8, 1], inb_S384x128_S24x128_5_0_s_8_1⟩ : LoadRect S384x128), spos_8_1⟩ : Rect S384x128), k0_pay78 (F := Ideal) (View.readAt (Elt Ideal) a9.view (Rect.unit (s := S24x512) ![0, 128] S24x128.size inb_S24x512_S24x128_0_128).toLoadRect X9)⟩,
      ⟨(⟨(⟨![196, 0], S24x128.size, ![8, 1], inb_S384x128_S24x128_196_0_s_8_1⟩ : LoadRect S384x128), spos_8_1⟩ : Rect S384x128), k0_pay81 (k0_pay75 (F := Ideal) (View.readAt (Elt Ideal) a9.view (Rect.unit (s := S24x512) ![0, 0] S24x128.size inb_S24x512_S24x128_0_0).toLoadRect X9)) 17152#32⟩,
      ⟨(⟨(⟨![4, 0], S24x128.size, ![8, 1], inb_S384x128_S24x128_4_0_s_8_1⟩ : LoadRect S384x128), spos_8_1⟩ : Rect S384x128), k0_pay78 (F := Ideal) (View.readAt (Elt Ideal) a9.view (Rect.unit (s := S24x512) ![0, 0] S24x128.size inb_S24x512_S24x128_0_0).toLoadRect X9)⟩,
      ⟨(⟨(⟨![195, 0], S24x128.size, ![8, 1], inb_S384x128_S24x128_195_0_s_8_1⟩ : LoadRect S384x128), spos_8_1⟩ : Rect S384x128), k0_pay81 (k0_pay75 (F := Ideal) (View.readAt (Elt Ideal) a8.view (Rect.unit (s := S24x512) ![0, 384] S24x128.size inb_S24x512_S24x128_0_384).toLoadRect X8)) 17152#32⟩,
      ⟨(⟨(⟨![3, 0], S24x128.size, ![8, 1], inb_S384x128_S24x128_3_0_s_8_1⟩ : LoadRect S384x128), spos_8_1⟩ : Rect S384x128), k0_pay78 (F := Ideal) (View.readAt (Elt Ideal) a8.view (Rect.unit (s := S24x512) ![0, 384] S24x128.size inb_S24x512_S24x128_0_384).toLoadRect X8)⟩,
      ⟨(⟨(⟨![194, 0], S24x128.size, ![8, 1], inb_S384x128_S24x128_194_0_s_8_1⟩ : LoadRect S384x128), spos_8_1⟩ : Rect S384x128), k0_pay81 (k0_pay75 (F := Ideal) (View.readAt (Elt Ideal) a8.view (Rect.unit (s := S24x512) ![0, 256] S24x128.size inb_S24x512_S24x128_0_256).toLoadRect X8)) 17152#32⟩,
      ⟨(⟨(⟨![2, 0], S24x128.size, ![8, 1], inb_S384x128_S24x128_2_0_s_8_1⟩ : LoadRect S384x128), spos_8_1⟩ : Rect S384x128), k0_pay78 (F := Ideal) (View.readAt (Elt Ideal) a8.view (Rect.unit (s := S24x512) ![0, 256] S24x128.size inb_S24x512_S24x128_0_256).toLoadRect X8)⟩,
      ⟨(⟨(⟨![193, 0], S24x128.size, ![8, 1], inb_S384x128_S24x128_193_0_s_8_1⟩ : LoadRect S384x128), spos_8_1⟩ : Rect S384x128), k0_pay81 (k0_pay75 (F := Ideal) (View.readAt (Elt Ideal) a8.view (Rect.unit (s := S24x512) ![0, 128] S24x128.size inb_S24x512_S24x128_0_128).toLoadRect X8)) 17152#32⟩,
      ⟨(⟨(⟨![1, 0], S24x128.size, ![8, 1], inb_S384x128_S24x128_1_0_s_8_1⟩ : LoadRect S384x128), spos_8_1⟩ : Rect S384x128), k0_pay78 (F := Ideal) (View.readAt (Elt Ideal) a8.view (Rect.unit (s := S24x512) ![0, 128] S24x128.size inb_S24x512_S24x128_0_128).toLoadRect X8)⟩,
      ⟨(⟨(⟨![192, 0], S24x128.size, ![8, 1], inb_S384x128_S24x128_192_0_s_8_1⟩ : LoadRect S384x128), spos_8_1⟩ : Rect S384x128), k0_pay81 (k0_pay75 (F := Ideal) (View.readAt (Elt Ideal) a8.view (Rect.unit (s := S24x512) ![0, 0] S24x128.size inb_S24x512_S24x128_0_0).toLoadRect X8)) 17152#32⟩,
      ⟨(⟨(⟨![0, 0], S24x128.size, ![8, 1], inb_S384x128_S24x128_0_0_s_8_1⟩ : LoadRect S384x128), spos_8_1⟩ : Rect S384x128), k0_pay78 (F := Ideal) (View.readAt (Elt Ideal) a8.view (Rect.unit (s := S24x512) ![0, 0] S24x128.size inb_S24x512_S24x128_0_0).toLoadRect X8)⟩]) y
      = zeroTab 16 (a8.view.read (Elt Ideal) X8) (a9.view.read (Elt Ideal) X9) (y 0).val (y 1).val := by
  refine read_writes_of_pieces v f (fun y => zeroTab 16 (a8.view.read (Elt Ideal) X8) (a9.view.read (Elt Ideal) X9) (y 0).val (y 1).val) _ ?_ y (.inl ?_)
  · intro p hp x
    simp only [List.mem_cons, List.not_mem_nil, or_false] at hp
    rcases hp with rfl|rfl|rfl|rfl|rfl|rfl|rfl|rfl|rfl|rfl|rfl|rfl|rfl|rfl|rfl|rfl
    · exact zero16_ok_hi 7 384 (by decide) (by decide) _ _ _ _ _ X9 rfl x
    · exact zero16_ok_lo 7 384 (by decide) (by decide) _ _ _ _ _ X9 rfl x
    · exact zero16_ok_hi 6 256 (by decide) (by decide) _ _ _ _ _ X9 rfl x
    · exact zero16_ok_lo 6 256 (by decide) (by decide) _ _ _ _ _ X9 rfl x
    · exact zero16_ok_hi 5 128 (by decide) (by decide) _ _ _ _ _ X9 rfl x
    · exact zero16_ok_lo 5 128 (by decide) (by decide) _ _ _ _ _ X9 rfl x
    · exact zero16_ok_hi 4 0 (by decide) (by decide) _ _ _ _ _ X9 rfl x
    · exact zero16_ok_lo 4 0 (by decide) (by decide) _ _ _ _ _ X9 rfl x
    · exact zero16_ok_hi 3 384 (by decide) (by decide) _ _ _ _ _ X8 rfl x
    · exact zero16_ok_lo 3 384 (by decide) (by decide) _ _ _ _ _ X8 rfl x
    · exact zero16_ok_hi 2 256 (by decide) (by decide) _ _ _ _ _ X8 rfl x
    · exact zero16_ok_lo 2 256 (by decide) (by decide) _ _ _ _ _ X8 rfl x
    · exact zero16_ok_hi 1 128 (by decide) (by decide) _ _ _ _ _ X8 rfl x
    · exact zero16_ok_lo 1 128 (by decide) (by decide) _ _ _ _ _ X8 rfl x
    · exact zero16_ok_hi 0 0 (by decide) (by decide) _ _ _ _ _ X8 rfl x
    · exact zero16_ok_lo 0 0 (by decide) (by decide) _ _ _ _ _ X8 rfl x
  · have hy : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
    have hy0 : (y 0).val < 384 := (y 0).isLt
    rcases hy with h|h|h|h|h|h|h|h
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem2 0 0 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem2 0 192 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem2 1 1 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem2 1 193 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem2 2 2 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem2 2 194 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem2 3 3 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem2 3 195 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem2 4 4 _ _ y (by omega) (by omega) (by omega)⟩
      · exact ⟨_, List.mem_cons_of_mem _ (List.mem_cons_of_mem _ (List.mem_cons_of_mem _ (List.mem_cons_of_mem _ (List.mem_cons_of_mem _ (List.mem_cons_of_mem _ (List.mem_cons_self)))))), mem2 4 196 _ _ y (by omega) (by omega) (by omega)⟩
    · by_cases g : (y 0).val < 192
      · exact ⟨_, List.mem_cons_of_mem _ (List.mem_cons_of_mem _ (List.mem_cons_of_mem _ (List.mem_cons_of_mem _ (List.mem_cons_of_mem _ (List.mem_cons_self))))), mem2 5 5 _ _ y (by omega) (by omega) (by omega)⟩
      · exact ⟨_, List.mem_cons_of_mem _ (List.mem_cons_of_mem _ (List.mem_cons_of_mem _ (List.mem_cons_of_mem _ (List.mem_cons_self)))), mem2 5 197 _ _ y (by omega) (by omega) (by omega)⟩
    · by_cases g : (y 0).val < 192
      · exact ⟨_, List.mem_cons_of_mem _ (List.mem_cons_of_mem _ (List.mem_cons_of_mem _ (List.mem_cons_self))), mem2 6 6 _ _ y (by omega) (by omega) (by omega)⟩
      · exact ⟨_, List.mem_cons_of_mem _ (List.mem_cons_of_mem _ (List.mem_cons_self)), mem2 6 198 _ _ y (by omega) (by omega) (by omega)⟩
    · by_cases g : (y 0).val < 192
      · exact ⟨_, List.mem_cons_of_mem _ (List.mem_cons_self), mem2 7 7 _ _ y (by omega) (by omega) (by omega)⟩
      · exact ⟨_, List.mem_cons_self, mem2 7 199 _ _ y (by omega) (by omega) (by omega)⟩

end Cert.KernelIdeal.Gen

end
-- ==== Proof.KernelIdealExpand.lean ====
/- What `KernelIdeal`'s loop over the rows of a chunk leaves in the expanded scales and zeros. -/
module

public import proofs.«01_k».proof.Proof.KernelIdealBandLoop
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The entry of a one-axis array at a natural (reduced into its range). -/
def at1 {n : Nat} [NeZero n] {α : Type} (v : (⟨1, ![n]⟩ : Shape).Idx → α) (a : Nat) : α := v (ix1 (Fin.ofNat n a))

/-- An entry read at an index is the entry at the index's coordinate. -/
theorem at1_of {n : Nat} [NeZero n] {α : Type} (v : (⟨1, ![n]⟩ : Shape).Idx → α) (j : (⟨1, ![n]⟩ : Shape).Idx)
    (a : Nat) (ha : (j 0).val = a) : v j = at1 v a := by
  subst ha
  unfold at1
  congr 1
  refine (eq_ix1 j).trans ?_
  exact congrArg ix1 (Fin.ext (Nat.mod_eq_of_lt (j 0).isLt).symm)

/-- The row of bytes of a chunk a row of the expanded tables belongs to. -/
def tripOf (R : Nat) : Nat := R / 64 * 8 + R % 8

/-- The expanded scales of chunk `t`: row `R` takes column group `R % 64 / 8` of the row groups' scales, the low half from
    the first table, the high half from the second. -/
def scalesOf (R2 : S6144.Idx → BitVec 32) (R12 R13 : S384x2x128.Idx → EReal) (t R h l : Nat) : EReal :=
  if h = 0 then at3 (n := 384) (m := 2) (k := 128) R12 ((at1 (n := 6144) R2 (192 * t + 2 * tripOf R)).toNat * 8 + R % 64 / 8) 0 l
  else at3 (n := 384) (m := 2) (k := 128) R13 ((at1 (n := 6144) R2 (192 * t + 2 * tripOf R + 1)).toNat * 8 + R % 64 / 8) 1 l

/-- The expanded zeros of chunk `t`: the words of the two tables combined. -/
def zerosOf (R2 : S6144.Idx → BitVec 32) (R14 R15 : S384x128.Idx → BitVec 32) (t R l : Nat) : BitVec 32 :=
  at2 (n := 384) (m := 128) R14 ((at1 (n := 6144) R2 (192 * t + 2 * tripOf R)).toNat * 8 + R % 64 / 8) l
    ||| at2 (n := 384) (m := 128) R15 ((at1 (n := 6144) R2 (192 * t + 2 * tripOf R + 1)).toNat * 8 + R % 64 / 8) l

/-- The expanded scale row, entry by entry: the low half of one table's words and the high half of the other's. -/
theorem pay4_apply (a b : Vec Ideal S8x2x128 .bf16) (x : S8x2x128.Idx) :
    k0_pay4 (F := Ideal) a b x = if (x 1).val = 0 then at3 (n := 8) (m := 2) (k := 128) a (x 0).val 0 (x 2).val
      else at3 (n := 8) (m := 2) (k := 128) b (x 0).val 1 (x 2).val := by
  have hx0 : (x 0).val < 8 := (x 0).isLt
  have hx1 : (x 1).val < 2 := (x 1).isLt
  unfold k0_pay4
  pointwise
  rcases (by omega : (x 1).val = 0 ∨ (x 1).val = 1) with h | h
  · rw [if_pos (by omega), if_pos (by omega), if_pos h]
    exact at3_of a _ _ _ _ (show 2 * (x 0).val / 2 = _ by omega) rfl rfl
  · rw [if_neg (by omega), if_neg (by omega), if_neg (by omega)]
    exact at3_of b _ _ _ _ (show (2 * (x 0).val + 1) / 2 = _ by omega) rfl rfl

/-- The offset of a row group's rows in the tables. -/
theorem off3_eq (v : BitVec 32) (h : v.toNat < 48) : k0_off3 v = ![v.toNat * 8, 0, 0] := by
  show ![(Scalar.muli v 8#32 : BitVec 32).toNat, 0, 0] = _
  rw [word8 v h]
/-- Where the rows of a group begin in a scale table. -/
theorem off4_eq (v : BitVec 32) (h : v.toNat < 48) : k0_off4 v = ![v.toNat * 8, 0, 0] := by
  show ![(Scalar.muli v 8#32 : BitVec 32).toNat, 0, 0] = _
  rw [word8 v h]
/-- Where the rows of a group begin in a zero table, -/
theorem off6_eq (v : BitVec 32) (h : v.toNat < 48) : k0_off6 v = ![v.toNat * 8, 0] := by
  show ![(Scalar.muli v 8#32 : BitVec 32).toNat, 0] = _
  rw [word8 v h]
/-- and in the other. -/
theorem off7_eq (v : BitVec 32) (h : v.toNat < 48) : k0_off7 v = ![v.toNat * 8, 0] := by
  show ![(Scalar.muli v 8#32 : BitVec 32).toNat, 0] = _
  rw [word8 v h]

/-- The word read at the first offset is the row group of the low row of the byte row. -/
theorem word1_eq {a2 : Memref sig .tc .smem S6144 .i32} (X2 : BufTy.Contents (Elt Ideal) a2.view.ty) (t : Fin k0_t1_loop.trips) (i : Fin k0_t2_loop.trips)
    (inb) (j) : View.readAt (Elt Ideal) a2.view (Rect.unit (s := S6144) (k0_off1 t i) S1.size inb).toLoadRect X2 j
      = at1 (n := 6144) (a2.view.read (Elt Ideal) X2) (192 * t.val + 2 * i.val) := by
  refine at1_of (a2.view.read (Elt Ideal) X2) _ _ ?_
  have hj : (j 0).val < 1 := (j 0).isLt
  refine (congrArg (· + 1 * (j 0).val) (congrFun (off1_eq t i) 0)).trans ?_
  show 192 * t.val + 2 * i.val + 1 * (j 0).val = _
  omega

/-- The word read at the second offset is the row group of the high row of the byte row. -/
theorem word2_eq {a2 : Memref sig .tc .smem S6144 .i32} (X2 : BufTy.Contents (Elt Ideal) a2.view.ty) (t : Fin k0_t1_loop.trips) (i : Fin k0_t2_loop.trips)
    (inb) (j) : View.readAt (Elt Ideal) a2.view (Rect.unit (s := S6144) (k0_off2 t i) S1.size inb).toLoadRect X2 j
      = at1 (n := 6144) (a2.view.read (Elt Ideal) X2) (192 * t.val + 2 * i.val + 1) := by
  refine at1_of (a2.view.read (Elt Ideal) X2) _ _ ?_
  have hj : (j 0).val < 1 := (j 0).isLt
  refine (congrArg (· + 1 * (j 0).val) (congrFun (off2_eq t i) 0)).trans ?_
  show 192 * t.val + 2 * i.val + 1 + 1 * (j 0).val = _
  omega

/-- One row of bytes' store into the expanded scales keeps them as they are to be, and adds its eight rows. -/
theorem write16_ok {a12 a13 : Memref sig .tc .vmem S384x2x128 .bf16} {a16 : Memref sig .tc .vmem S768x2x128 .bf16}
    (X12 : BufTy.Contents (Elt Ideal) a12.view.ty) (X13 : BufTy.Contents (Elt Ideal) a13.view.ty) (f : BufTy.Contents (Elt Ideal) a16.view.ty)
    (R2 : S6144.Idx → BitVec 32) (t : Fin k0_t1_loop.trips) (i : Fin k0_t2_loop.trips) (v w : BitVec 32) (hv : v.toNat < 48) (hw : w.toNat < 48)
    (ev : v = at1 (n := 6144) R2 (192 * t.val + 2 * i.val)) (ew : w = at1 (n := 6144) R2 (192 * t.val + 2 * i.val + 1))
    (inb12) (inb13) (inb) (sp)
    (hf : ∀ y : S768x2x128.Idx, tripOf (y 0).val < i.val → a16.view.read (Elt Ideal) f y
      = scalesOf R2 (a12.view.read (Elt Ideal) X12) (a13.view.read (Elt Ideal) X13) t.val (y 0).val (y 1).val (y 2).val)
    (y : S768x2x128.Idx) (hy : tripOf (y 0).val < i.val + 1) :
    a16.view.read (Elt Ideal) (a16.view.writes (Elt Ideal) f [⟨⟨(⟨k0_off5 i, S8x2x128.size, ![8, 1, 1], inb⟩ : LoadRect S768x2x128), sp⟩,
      k0_pay4 (View.readAt (Elt Ideal) a12.view (Rect.unit (s := S384x2x128) (k0_off3 v) S8x2x128.size inb12).toLoadRect X12)
        (View.readAt (Elt Ideal) a13.view (Rect.unit (s := S384x2x128) (k0_off4 w) S8x2x128.size inb13).toLoadRect X13)⟩]) y
      = scalesOf R2 (a12.view.read (Elt Ideal) X12) (a13.view.read (Elt Ideal) X13) t.val (y 0).val (y 1).val (y 2).val := by
  have hi : i.val < 96 := Nat.lt_of_lt_of_le i.isLt (by decide)
  refine read_writes_of_pieces a16.view f (fun y => scalesOf R2 (a12.view.read (Elt Ideal) X12) (a13.view.read (Elt Ideal) X13) t.val (y 0).val (y 1).val (y 2).val) _ ?_ y ?_
  · intro p hp x
    rw [List.mem_singleton] at hp
    subst hp
    have hx0 : (x 0).val < 8 := (x 0).isLt
    have hx1 : (x 1).val < 2 := (x 1).isLt
    have hx2 : (x 2).val < 128 := (x 2).isLt
    have e0 : ((⟨(⟨k0_off5 i, S8x2x128.size, ![8, 1, 1], inb⟩ : LoadRect S768x2x128), sp⟩ : Rect S768x2x128).emb x 0).val = i.val / 8 * 64 + i.val % 8 + 8 * (x 0).val := by
      exact congrArg (· + 8 * (x 0).val) (congrFun (off5_eq i) 0)
    have e1 : ((⟨(⟨k0_off5 i, S8x2x128.size, ![8, 1, 1], inb⟩ : LoadRect S768x2x128), sp⟩ : Rect S768x2x128).emb x 1).val = (x 1).val := by
      refine (congrArg (· + 1 * (x 1).val) (congrFun (off5_eq i) 1)).trans ?_
      show 0 + 1 * (x 1).val = _; omega
    have e2 : ((⟨(⟨k0_off5 i, S8x2x128.size, ![8, 1, 1], inb⟩ : LoadRect S768x2x128), sp⟩ : Rect S768x2x128).emb x 2).val = (x 2).val := by
      refine (congrArg (· + 1 * (x 2).val) (congrFun (off5_eq i) 2)).trans ?_
      show 0 + 1 * (x 2).val = _; omega
    show k0_pay4 (F := Ideal) _ _ x = scalesOf R2 _ _ t.val _ _ _
    rw [e0, e1, e2]
    refine (pay4_apply _ _ x).trans ?_
    have et : tripOf (i.val / 8 * 64 + i.val % 8 + 8 * (x 0).val) = i.val := by unfold tripOf; omega
    have ec : (i.val / 8 * 64 + i.val % 8 + 8 * (x 0).val) % 64 / 8 = (x 0).val := by omega
    unfold scalesOf
    rw [et, ec, ← ev, ← ew]
    split
    · refine at3_of (a12.view.read (Elt Ideal) X12) _ _ _ _ ?_ ?_ ?_
      · show k0_off3 v 0 + 1 * ((x 0).val % 8) = _
        refine (congrArg (· + 1 * ((x 0).val % 8)) (congrFun (off3_eq v hv) 0)).trans ?_; show v.toNat * 8 + 1 * ((x 0).val % 8) = _; omega
      · rfl
      · show 0 + 1 * ((x 2).val % 128) = _
        omega
    · refine at3_of (a13.view.read (Elt Ideal) X13) _ _ _ _ ?_ ?_ ?_
      · show k0_off4 w 0 + 1 * ((x 0).val % 8) = _
        refine (congrArg (· + 1 * ((x 0).val % 8)) (congrFun (off4_eq w hw) 0)).trans ?_; show w.toNat * 8 + 1 * ((x 0).val % 8) = _; omega
      · rfl
      · show 0 + 1 * ((x 2).val % 128) = _
        omega
  · by_cases h : tripOf (y 0).val < i.val
    · exact .inr (hf y h)
    · refine .inl ⟨_, List.mem_singleton_self _, ?_⟩
      have hy0 : (y 0).val < 768 := (y 0).isLt
      have ht : tripOf (y 0).val = i.val := by omega
      unfold tripOf at ht
      rw [← Rect.map_emb_univ]
      refine Finset.mem_map.mpr ⟨(ix3 (⟨(y 0).val % 64 / 8, by omega⟩ : Fin 8) (y 1 : Fin 2) (y 2 : Fin 128) : S8x2x128.Idx), Finset.mem_univ _, ?_⟩
      funext a
      apply Fin.ext
      match a with
      | ⟨0, _⟩ =>
        show k0_off5 i 0 + 8 * ((y 0).val % 64 / 8) = (y 0).val
        rw [off5_eq]; show i.val / 8 * 64 + i.val % 8 + 8 * ((y 0).val % 64 / 8) = _; omega
      | ⟨1, _⟩ =>
        show k0_off5 i 1 + 1 * (y 1).val = (y 1).val
        rw [off5_eq]; show 0 + 1 * (y 1).val = _; omega
      | ⟨2, _⟩ =>
        show k0_off5 i 2 + 1 * (y 2).val = (y 2).val
        rw [off5_eq]; show 0 + 1 * (y 2).val = _; omega

/-- One row of bytes' store into the expanded zeros keeps them as they are to be, and adds its eight rows. -/
theorem write17_ok {a14 a15 : Memref sig .tc .vmem S384x128 .i32} {a17 : Memref sig .tc .vmem S768x128 .i32}
    (X14 : BufTy.Contents (Elt Ideal) a14.view.ty) (X15 : BufTy.Contents (Elt Ideal) a15.view.ty) (f : BufTy.Contents (Elt Ideal) a17.view.ty)
    (R2 : S6144.Idx → BitVec 32) (t : Fin k0_t1_loop.trips) (i : Fin k0_t2_loop.trips) (v w : BitVec 32) (hv : v.toNat < 48) (hw : w.toNat < 48)
    (ev : v = at1 (n := 6144) R2 (192 * t.val + 2 * i.val)) (ew : w = at1 (n := 6144) R2 (192 * t.val + 2 * i.val + 1))
    (inb14) (inb15) (inb) (sp)
    (hf : ∀ y : S768x128.Idx, tripOf (y 0).val < i.val → a17.view.read (Elt Ideal) f y
      = zerosOf R2 (a14.view.read (Elt Ideal) X14) (a15.view.read (Elt Ideal) X15) t.val (y 0).val (y 1).val)
    (y : S768x128.Idx) (hy : tripOf (y 0).val < i.val + 1) :
    a17.view.read (Elt Ideal) (a17.view.writes (Elt Ideal) f [⟨⟨(⟨k0_off8 i, S8x128.size, ![8, 1], inb⟩ : LoadRect S768x128), sp⟩,
      k0_pay5 (F := Ideal) (View.readAt (Elt Ideal) a14.view (Rect.unit (s := S384x128) (k0_off6 v) S8x128.size inb14).toLoadRect X14)
        (View.readAt (Elt Ideal) a15.view (Rect.unit (s := S384x128) (k0_off7 w) S8x128.size inb15).toLoadRect X15)⟩]) y
      = zerosOf R2 (a14.view.read (Elt Ideal) X14) (a15.view.read (Elt Ideal) X15) t.val (y 0).val (y 1).val := by
  have hi : i.val < 96 := Nat.lt_of_lt_of_le i.isLt (by decide)
  refine read_writes_of_pieces a17.view f (fun y => zerosOf R2 (a14.view.read (Elt Ideal) X14) (a15.view.read (Elt Ideal) X15) t.val (y 0).val (y 1).val) _ ?_ y ?_
  · intro p hp x
    rw [List.mem_singleton] at hp
    subst hp
    have hx0 : (x 0).val < 8 := (x 0).isLt
    have hx1 : (x 1).val < 128 := (x 1).isLt
    have e0 : ((⟨(⟨k0_off8 i, S8x128.size, ![8, 1], inb⟩ : LoadRect S768x128), sp⟩ : Rect S768x128).emb x 0).val = i.val / 8 * 64 + i.val % 8 + 8 * (x 0).val := by
      exact congrArg (· + 8 * (x 0).val) (congrFun (off8_eq i) 0)
    have e1 : ((⟨(⟨k0_off8 i, S8x128.size, ![8, 1], inb⟩ : LoadRect S768x128), sp⟩ : Rect S768x128).emb x 1).val = (x 1).val := by
      refine (congrArg (· + 1 * (x 1).val) (congrFun (off8_eq i) 1)).trans ?_
      show 0 + 1 * (x 1).val = _; omega
    show k0_pay5 (F := Ideal) _ _ x = zerosOf R2 _ _ t.val _ _
    rw [e0, e1]
    have et : tripOf (i.val / 8 * 64 + i.val % 8 + 8 * (x 0).val) = i.val := by unfold tripOf; omega
    have ec : (i.val / 8 * 64 + i.val % 8 + 8 * (x 0).val) % 64 / 8 = (x 0).val := by omega
    unfold zerosOf k0_pay5
    rw [et, ec, ← ev, ← ew]
    refine (congrFun (shapeCast_self _ _) x).trans ?_
    refine congrArg₂ (· ||| ·) ?_ ?_
    · refine at2_of (a14.view.read (Elt Ideal) X14) _ _ _ ?_ ?_
      · show k0_off6 v 0 + 1 * (x 0).val = _
        refine (congrArg (· + 1 * (x 0).val) (congrFun (off6_eq v hv) 0)).trans ?_; show v.toNat * 8 + 1 * (x 0).val = _; omega
      · show 0 + 1 * (x 1).val = _
        omega
    · refine at2_of (a15.view.read (Elt Ideal) X15) _ _ _ ?_ ?_
      · show k0_off7 w 0 + 1 * (x 0).val = _
        refine (congrArg (· + 1 * (x 0).val) (congrFun (off7_eq w hw) 0)).trans ?_; show w.toNat * 8 + 1 * (x 0).val = _; omega
      · show 0 + 1 * (x 1).val = _
        omega
  · by_cases h : tripOf (y 0).val < i.val
    · exact .inr (hf y h)
    · refine .inl ⟨_, List.mem_singleton_self _, ?_⟩
      have hy0 : (y 0).val < 768 := (y 0).isLt
      have ht : tripOf (y 0).val = i.val := by omega
      unfold tripOf at ht
      rw [← Rect.map_emb_univ]
      refine Finset.mem_map.mpr ⟨(ix2 (⟨(y 0).val % 64 / 8, by omega⟩ : Fin 8) (y 1 : Fin 128) : S8x128.Idx), Finset.mem_univ _, ?_⟩
      funext a
      apply Fin.ext
      match a with
      | ⟨0, _⟩ =>
        show k0_off8 i 0 + 8 * ((y 0).val % 64 / 8) = (y 0).val
        rw [off8_eq]; show i.val / 8 * 64 + i.val % 8 + 8 * ((y 0).val % 64 / 8) = _; omega
      | ⟨1, _⟩ =>
        show k0_off8 i 1 + 1 * (y 1).val = (y 1).val
        rw [off8_eq]; show 0 + 1 * (y 1).val = _; omega

end Cert.KernelIdeal.Gen

end
-- ==== Proof.KernelIdealRows.lean ====
/- The loops of `KernelIdeal`'s body over the chunks of rows and over the rows of a chunk, with what they compute. -/
module

public import proofs.«01_k».proof.Proof.KernelIdealExpand
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The dequantized weight at row `ρ` and column `κ`, of the bytes (`R4` gate, `R5` up), the row groups `R2` and the four tables. -/
def weightOf (R2 : S6144.Idx → BitVec 32) (R4 R5 : S3072x512.Idx → BitVec 8) (R12 R13 : S384x2x128.Idx → EReal) (R14 R15 : S384x128.Idx → BitVec 32)
    (ρ κ : Nat) : EReal :=
  cell (at2 (n := 3072) (m := 512) (if κ / 128 < 4 then R4 else R5) (ρ / 2) (128 * (κ / 128 % 4) + κ % 128))
    (at2 (n := 384) (m := 128) R14 ((at1 (n := 6144) R2 (2 * (ρ / 2))).toNat * 8 + κ / 128) (κ % 128)
      ||| at2 (n := 384) (m := 128) R15 ((at1 (n := 6144) R2 (2 * (ρ / 2) + 1)).toNat * 8 + κ / 128) (κ % 128))
    (if ρ % 2 = 0 then at3 (n := 384) (m := 2) (k := 128) R12 ((at1 (n := 6144) R2 (2 * (ρ / 2))).toNat * 8 + κ / 128) 0 (κ % 128)
      else at3 (n := 384) (m := 2) (k := 128) R13 ((at1 (n := 6144) R2 (2 * (ρ / 2) + 1)).toNat * 8 + κ / 128) 1 (κ % 128))
    (ρ % 2)

/-- A chunk of the weights, when the expanded scales and zeros are those of the chunk. -/
theorem chunk_of (R2 R4 R5 R12 R13 R14 R15) (R16 : S768x2x128.Idx → EReal) (R17 : S768x128.Idx → BitVec 32) (t : Nat)
    (h16 : ∀ y : S768x2x128.Idx, R16 y = scalesOf R2 R12 R13 t (y 0).val (y 1).val (y 2).val)
    (h17 : ∀ y : S768x128.Idx, R17 y = zerosOf R2 R14 R15 t (y 0).val (y 1).val) :
    ChunkIs R4 R5 R16 R17 t (weightOf R2 R4 R5 R12 R13 R14 R15) := by
  intro cc j f l hcc hj hf hl
  have e1 : (128 * cc + l) / 128 = cc := by omega
  have e2 : (128 * cc + l) % 128 = l := by omega
  have e3 : (192 * t + 2 * j + f) / 2 = 96 * t + j := by omega
  have e4 : (192 * t + 2 * j + f) % 2 = f := by omega
  have e5 : tripOf (j / 8 * 64 + j % 8 + 8 * cc) = j := by unfold tripOf; omega
  have e6 : (j / 8 * 64 + j % 8 + 8 * cc) % 64 / 8 = cc := by omega
  have m0 : (j / 8 * 64 + j % 8 + 8 * cc) % 768 = j / 8 * 64 + j % 8 + 8 * cc := by omega
  have m1 : f % 2 = f := by omega
  have m2 : l % 128 = l := by omega
  have e7 : 2 * (96 * t + j) = 192 * t + 2 * j := by omega
  unfold weightOf
  rw [e1, e2, e3, e4, e7]
  have h17' : at2 (n := 768) (m := 128) R17 (j / 8 * 64 + j % 8 + 8 * cc) l = zerosOf R2 R14 R15 t (j / 8 * 64 + j % 8 + 8 * cc) l := by
    refine (h17 _).trans ?_
    show zerosOf R2 R14 R15 t ((j / 8 * 64 + j % 8 + 8 * cc) % 768) (l % 128) = _
    rw [m0, m2]
  have h16' : at3 (n := 768) (m := 2) (k := 128) R16 (j / 8 * 64 + j % 8 + 8 * cc) f l = scalesOf R2 R12 R13 t (j / 8 * 64 + j % 8 + 8 * cc) f l := by
    refine (h16 _).trans ?_
    show scalesOf R2 R12 R13 t ((j / 8 * 64 + j % 8 + 8 * cc) % 768) (f % 2) (l % 128) = _
    rw [m0, m1, m2]
  rw [h17', h16']
  unfold zerosOf scalesOf
  rw [e5, e6]

set_option warn.classDefReducibility false in set_option maxHeartbeats 4000000 in set_option sl_exec.stridedRows true in
/-- The loop that expands one chunk of rows: the rows expanded so far are what they are to be. Every row group read is below
    48 (`hX`). -/
@[sl_loop] noncomputable def valInv_k0_t2 (c : Dev nD) (E : Set ℕ) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1) (k0_t1 : Fin k0_t1_loop.trips) (v370 : BitVec 32)
    (X2 : BufTy.Contents (Elt Ideal) arg2.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty)
    (hX : ∀ (r : LoadRect S6144) (j : r.shape.Idx), BitVec.toNat (View.readAt (Elt Ideal) arg2.view r X2 j : BitVec 32) < 48) :
    LoopInvTy_k0_t2 (F := Ideal) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k0_t1 v370 where
  inv := fun k acc => iprop((arg2.view.loc (c : Thread nD τ) ↦{fullShare.right} X2) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)
    ∗ (∃ f, ⌜∀ y : S768x2x128.Idx, tripOf (y 0).val < k → arg16.view.read (Elt Ideal) f y = scalesOf (arg2.view.read (Elt Ideal) X2) (arg12.view.read (Elt Ideal) X12) (arg13.view.read (Elt Ideal) X13) k0_t1.val (y 0).val (y 1).val (y 2).val⌝ ∗ (arg16.view.loc (c : Thread nD τ) ↦[arg16.view.set]{fullShare} f))
    ∗ (∃ f, ⌜∀ y : S768x128.Idx, tripOf (y 0).val < k → arg17.view.read (Elt Ideal) f y = zerosOf (arg2.view.read (Elt Ideal) X2) (arg14.view.read (Elt Ideal) X14) (arg15.view.read (Elt Ideal) X15) k0_t1.val (y 0).val (y 1).val⌝ ∗ (arg17.view.loc (c : Thread nD τ) ↦[arg17.view.set]{fullShare} f)))
  step := fun k acc => by
    iintro ⟨H2, H12, H13, H14, H15, ⟨%f16, %h16, H16⟩, ⟨%f17, %h17, H17⟩⟩
    unfold k0_t2_body
    simp only [k0_part1_eq_skeleton]; unfold k0_part1_skel
    sl_exec (disch := first | exact chk1_of _ _ (hX _ _) | exact chk2_of _ _ (hX _ _))
    sl_step
    isplitl [H2]; · iexact H2
    isplitl [H12]; · iexact H12
    isplitl [H13]; · iexact H13
    isplitl [H14]; · iexact H14
    isplitl [H15]; · iexact H15
    isplitl [H16]
    · iexists _; isplitr; swap; · iexact H16
      ipureintro
      exact write16_ok X12 X13 f16 _ k0_t1 k _ _ (hX _ _) (hX _ _) (word1_eq X2 k0_t1 k _ _) (word2_eq X2 k0_t1 k _ _) _ _ _ _ h16
    · iexists _; isplitr; swap; · iexact H17
      ipureintro
      exact write17_ok X14 X15 f17 _ k0_t1 k _ _ (hX _ _) (hX _ _) (word1_eq X2 k0_t1 k _ _) (word2_eq X2 k0_t1 k _ _) _ _ _ _ h17

set_option warn.classDefReducibility false in set_option maxHeartbeats 4000000 in
/-- The loop over the chunks of rows: the rows of the chunks so far hold the dequantized weights. -/
@[sl_loop] noncomputable def valInv_k0_t1 (c : Dev nD) (E : Set ℕ) (i : grid0.Coords) (arg2 : Memref sig .tc .smem S6144 .i32) (harg2 : arg2.IsWhole) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (k0_h1 : k0_cond1 i = 1#1)
    (X2 : BufTy.Contents (Elt Ideal) arg2.view.ty) (X4 : BufTy.Contents (Elt Ideal) arg4.view.ty) (X5 : BufTy.Contents (Elt Ideal) arg5.view.ty) (X12 : BufTy.Contents (Elt Ideal) arg12.view.ty) (X13 : BufTy.Contents (Elt Ideal) arg13.view.ty) (X14 : BufTy.Contents (Elt Ideal) arg14.view.ty) (X15 : BufTy.Contents (Elt Ideal) arg15.view.ty)
    (hX : ∀ (r : LoadRect S6144) (j : r.shape.Idx), BitVec.toNat (View.readAt (Elt Ideal) arg2.view r X2 j : BitVec 32) < 48) :
    LoopInvTy_k0_t1 (F := Ideal) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 where
  inv := fun k acc => iprop((arg2.view.loc (c : Thread nD τ) ↦{fullShare.right} X2) ∗ (arg4.view.loc (c : Thread nD τ) ↦[arg4.view.set]{fullShare} X4) ∗ (arg5.view.loc (c : Thread nD τ) ↦[arg5.view.set]{fullShare} X5) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15)
    ∗ (∃ f, ⌜∀ y : S6144x1024.Idx, (y 0).val < 192 * k → arg11.view.read (Elt Ideal) f y = weightOf (arg2.view.read (Elt Ideal) X2) (arg4.view.read (Elt Ideal) X4) (arg5.view.read (Elt Ideal) X5) (arg12.view.read (Elt Ideal) X12) (arg13.view.read (Elt Ideal) X13) (arg14.view.read (Elt Ideal) X14) (arg15.view.read (Elt Ideal) X15) (y 0).val (y 1).val⌝ ∗ (arg11.view.loc (c : Thread nD τ) ↦[arg11.view.set]{fullShare} f))
    ∗ (∃ f, (arg16.view.loc (c : Thread nD τ) ↦[arg16.view.set]{fullShare} f)) ∗ (∃ f, (arg17.view.loc (c : Thread nD τ) ↦[arg17.view.set]{fullShare} f)))
  step := fun k acc => by
    iintro ⟨H2, H4, H5, H12, H13, H14, H15, ⟨%f11, %h11, H11⟩, ⟨%f16, H16⟩, ⟨%f17, H17⟩⟩
    unfold k0_t1_body
    sl_exec
    sl_step
    isplitl [H2]; · iexact H2
    isplitl [H4]; · iexact H4
    isplitl [H5]; · iexact H5
    isplitl [H12]; · iexact H12
    isplitl [H13]; · iexact H13
    isplitl [H14]; · iexact H14
    isplitl [H15]; · iexact H15
    isplitl [H11]
    · iexists _; isplitr; swap; · iexact H11
      ipureintro
      have ht2 : Scf.trips k0_t2_loop.lb k0_t2_loop.ub k0_t2_loop.st = 96 := by decide
      have ht3 : Scf.trips k0_t3_loop.lb k0_t3_loop.ub k0_t3_loop.st = 3 := by decide
      intro y hy
      have h16 := fun y : S768x2x128.Idx => hL5 y (by
        have hy0 : (y 0).val < 768 := (y 0).isLt
        rw [ht2]; unfold tripOf; omega)
      have h17 := fun y : S768x128.Idx => hL7 y (by
        have hy0 : (y 0).val < 768 := (y 0).isLt
        rw [ht2]; unfold tripOf; omega)
      rw [ht3]
      exact bands_read c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k0_h1 k _ X4 X5 fL0 fL1 f11 _ (chunk_of _ _ _ _ _ _ _ _ _ _ h16 h17) h11 3 (by decide) y (by omega)
    isplitl [H16]; · iexists _; iexact H16
    iexists _; iexact H17

end Cert.KernelIdeal.Gen

end
-- ==== Proof.KernelIdealWeights.lean ====
/- The dequantized weight of `KernelIdeal` as a real number: nibble less zero, times scale. -/
module

public import proofs.«01_k».proof.Proof.KernelIdealTables
public import proofs.«01_k».proof.Proof.KernelIdealRows
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- Nibble `f` of a byte, as a natural. -/
def nib (f : Nat) (b : BitVec 8) : Nat := b.toNat / 16 ^ f % 16

/-- The 16 bits of 128 + `n` as a bf16, for `n` below 16. -/
def bits128 (n : Nat) : BitVec 16 := 17152#16 ||| BitVec.ofNat 16 n

/-- The low half of a code word is that of the low nibble, -/
theorem qword_lo : ∀ q : BitVec 8, (qword q).extractLsb' 0 16 = bits128 (nib 0 q) := by decide +kernel
/-- and the high half that of the high nibble. -/
theorem qword_hi : ∀ q : BitVec 8, (qword q).extractLsb' 16 16 = bits128 (nib 1 q) := by decide +kernel
/-- A zero word of a low nibble -/
theorem zeroWord_lo : ∀ b : BitVec 8, zeroWord 0 b = (bits128 (nib 0 b)).setWidth 32 := by decide +kernel
/-- and of a high nibble, -/
theorem zeroWord_hi : ∀ b : BitVec 8, zeroWord 1 b = (bits128 (nib 1 b)).setWidth 32 := by decide +kernel

/-- and of either. -/
theorem zeroWord_eq (f : Nat) (hf : f < 2) (b : BitVec 8) : zeroWord f b = (bits128 (nib f b)).setWidth 32 := by
  rcases (by omega : f = 0 ∨ f = 1) with rfl | rfl
  · exact zeroWord_lo b
  · exact zeroWord_hi b

/-- The low half of two halves joined, -/
theorem or_halves_lo (u v : BitVec 16) : (u.setWidth 32 ||| v.setWidth 32 <<< (16 : Nat)).extractLsb' 0 16 = u := by
  refine BitVec.eq_of_getLsbD_eq fun i hi => ?_
  simp [hi, show i < 32 by omega]
/-- and the high half. -/
theorem or_halves_hi (u v : BitVec 16) : (u.setWidth 32 ||| v.setWidth 32 <<< (16 : Nat)).extractLsb' 16 16 = v := by
  refine BitVec.eq_of_getLsbD_eq fun i hi => ?_
  simp [hi, show 16 + i < 32 by omega]

/-- The bf16 value of those bits. -/
theorem ofBits_bits128 (n : Nat) (h : n < 16) : Ideal.ofBits .bf16 (bits128 n) = ((128 + n : ℝ) : EReal) := by
  have hs : ∀ n : Fin 16, ((bits128 n.val).extractLsb' (8 + 7) 1 == 1#1) = false := by decide +kernel
  have he : ∀ n : Fin 16, ((bits128 n.val).extractLsb' 7 8).toNat = 134 := by decide +kernel
  have hm : ∀ n : Fin 16, ((bits128 n.val).extractLsb' 0 7).toNat = n.val := by decide +kernel
  show Ideal.ieee 8 7 (bits128 n) = _
  unfold Ideal.ieee
  simp only [hs ⟨n, h⟩, he ⟨n, h⟩, hm ⟨n, h⟩]
  norm_num

/-- A nibble is below 16. -/
theorem nib_lt (f : Nat) (b : BitVec 8) : nib f b < 16 := Nat.mod_lt _ (by decide)

/-- A dequantized entry, when the zero word's half is that of a zero nibble. -/
theorem cell_eq (q z : BitVec 8) (f a : Nat) (hf : f < 2) (w : BitVec 32) (s : EReal)
    (hw : w.extractLsb' (16 * f) 16 = bits128 (nib a z)) :
    cell q w s f = ((((nib f q : ℝ) - (nib a z : ℝ) : ℝ)) : EReal) * s := by
  unfold cell half
  have hq : (qword q).extractLsb' (16 * f) 16 = bits128 (nib f q) := by
    rcases (by omega : f = 0 ∨ f = 1) with rfl | rfl
    · exact qword_lo q
    · exact qword_hi q
  rw [hq, hw, ofBits_bits128 _ (nib_lt _ _), ofBits_bits128 _ (nib_lt _ _), ← EReal.coe_sub]
  congr 2
  ring

/-- The dequantized weight at row `ρ` and column `κ` (512 gate columns, then 512 up columns): the nibble less its group's
    zero, times its group's scale. -/
def wOf (R2 : S6144.Idx → BitVec 32) (R4 R5 : S3072x512.Idx → BitVec 8) (R6 R7 : S48x512.Idx → EReal) (R8 R9 : S24x512.Idx → BitVec 8)
    (ρ κ : Nat) : EReal :=
  ((((nib (ρ % 2) (at2 (n := 3072) (m := 512) (if κ < 512 then R4 else R5) (ρ / 2) (κ % 512)) : ℝ)
      - (nib ((at1 (n := 6144) R2 ρ).toNat / 24) (at2 (n := 24) (m := 512) (if κ < 512 then R8 else R9) ((at1 (n := 6144) R2 ρ).toNat % 24) (κ % 512)) : ℝ) : ℝ)) : EReal)
    * at2 (n := 48) (m := 512) (if κ < 512 then R6 else R7) (at1 (n := 6144) R2 ρ).toNat (κ % 512)

/-- With the tables as built, the weight the chunk loop writes is that. -/
theorem weightOf_eq (R2 R4 R5 R6 R7 R8 R9) (R12 R13 : S384x2x128.Idx → EReal) (R14 R15 : S384x128.Idx → BitVec 32)
    (h2 : ∀ y, (R2 y).toNat < 48)
    (h12 : ∀ y, R12 y = loTab R6 R7 (y 0).val (y 1).val (y 2).val) (h13 : ∀ y, R13 y = hiTab R6 R7 (y 0).val (y 1).val (y 2).val)
    (h14 : ∀ y, R14 y = zeroTab 0 R8 R9 (y 0).val (y 1).val) (h15 : ∀ y, R15 y = zeroTab 16 R8 R9 (y 0).val (y 1).val)
    (ρ κ : Nat) (hκ : κ < 1024) : weightOf R2 R4 R5 R12 R13 R14 R15 ρ κ = wOf R2 R4 R5 R6 R7 R8 R9 ρ κ := by
  have hcc : κ / 128 < 8 := by omega
  have g48 : ∀ n, (at1 (n := 6144) R2 n).toNat < 48 := fun n => h2 _
  have t12 : ∀ g, g < 48 → at3 (n := 384) (m := 2) (k := 128) R12 (g * 8 + κ / 128) 0 (κ % 128)
      = at2 (n := 48) (m := 512) (if κ < 512 then R6 else R7) g (κ % 512) := by
    intro g hg
    refine (h12 _).trans ?_
    show loTab R6 R7 ((g * 8 + κ / 128) % 384) (0 % 2) (κ % 128 % 128) = _
    rw [show (g * 8 + κ / 128) % 384 = g * 8 + κ / 128 by omega, show κ % 128 % 128 = κ % 128 by omega]
    unfold loTab scaleAt
    rw [if_pos rfl, show (g * 8 + κ / 128) % 8 = κ / 128 by omega, show (g * 8 + κ / 128) / 8 = g by omega,
      show 128 * (κ / 128 % 4) + κ % 128 = κ % 512 by omega, if_congr (show κ / 128 < 4 ↔ κ < 512 by omega) rfl rfl]
  have t13 : ∀ g, g < 48 → at3 (n := 384) (m := 2) (k := 128) R13 (g * 8 + κ / 128) 1 (κ % 128)
      = at2 (n := 48) (m := 512) (if κ < 512 then R6 else R7) g (κ % 512) := by
    intro g hg
    refine (h13 _).trans ?_
    show hiTab R6 R7 ((g * 8 + κ / 128) % 384) (1 % 2) (κ % 128 % 128) = _
    rw [show (g * 8 + κ / 128) % 384 = g * 8 + κ / 128 by omega, show κ % 128 % 128 = κ % 128 by omega]
    unfold hiTab scaleAt
    rw [if_neg (show ¬(1 % 2 = 0) by decide), show (g * 8 + κ / 128) % 8 = κ / 128 by omega, show (g * 8 + κ / 128) / 8 = g by omega,
      show 128 * (κ / 128 % 4) + κ % 128 = κ % 512 by omega, if_congr (show κ / 128 < 4 ↔ κ < 512 by omega) rfl rfl]
  have zt : ∀ s g, g < 48 → zeroTab s R8 R9 ((g * 8 + κ / 128) % 384) (κ % 128 % 128)
      = (bits128 (nib (g / 24) (at2 (n := 24) (m := 512) (if κ < 512 then R8 else R9) (g % 24) (κ % 512)))).setWidth 32 <<< s := by
    intro s g hg
    rw [show (g * 8 + κ / 128) % 384 = g * 8 + κ / 128 by omega, show κ % 128 % 128 = κ % 128 by omega]
    unfold zeroTab
    rw [show (g * 8 + κ / 128) % 8 = κ / 128 by omega, show (g * 8 + κ / 128) / 8 = g by omega,
      show 128 * (κ / 128 % 4) + κ % 128 = κ % 512 by omega, if_congr (show κ / 128 < 4 ↔ κ < 512 by omega) rfl rfl,
      zeroWord_eq _ (by omega)]
  have t14 : ∀ g, g < 48 → at2 (n := 384) (m := 128) R14 (g * 8 + κ / 128) (κ % 128)
      = (bits128 (nib (g / 24) (at2 (n := 24) (m := 512) (if κ < 512 then R8 else R9) (g % 24) (κ % 512)))).setWidth 32 := by
    intro g hg
    refine (h14 _).trans ((zt 0 g hg).trans ?_)
    exact BitVec.shiftLeft_zero _
  have t15 : ∀ g, g < 48 → at2 (n := 384) (m := 128) R15 (g * 8 + κ / 128) (κ % 128)
      = (bits128 (nib (g / 24) (at2 (n := 24) (m := 512) (if κ < 512 then R8 else R9) (g % 24) (κ % 512)))).setWidth 32 <<< (16 : Nat) :=
    fun g hg => (h15 _).trans (zt 16 g hg)
  unfold weightOf wOf
  rw [t14 _ (g48 _), t15 _ (g48 _), t12 _ (g48 _), t13 _ (g48 _), show 128 * (κ / 128 % 4) + κ % 128 = κ % 512 by omega,
    if_congr (show κ / 128 < 4 ↔ κ < 512 by omega) rfl rfl]
  rcases (by omega : ρ % 2 = 0 ∨ ρ % 2 = 1) with h | h
  · rw [h, if_pos rfl, show 2 * (ρ / 2) = ρ by omega]
    exact cell_eq _ _ 0 _ (by decide) _ _ (or_halves_lo _ _)
  · rw [h, if_neg (show ¬(1 = 0) by decide), show 2 * (ρ / 2) + 1 = ρ by omega]
    exact cell_eq _ _ 1 _ (by decide) _ _ (or_halves_hi _ _)

end Cert.KernelIdeal.Gen

end
-- ==== Proof.KernelIdealOut.lean ====
/- The output block a point of `KernelIdeal`'s body stores. -/
module

public import proofs.«01_k».proof.Proof.KernelIdealBandLoop
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The whole-array rectangle leaves an index in place. -/
theorem emb_zero2 (n m : Nat) (inb) (x : (⟨2, ![n, m]⟩ : Shape).Idx) :
    (Rect.unit (s := (⟨2, ![n, m]⟩ : Shape)) ![0, 0] ![n, m] inb).emb x = x := by
  funext a
  apply Fin.ext
  match a with
  | ⟨0, _⟩ => show 0 + 1 * (x 0).val = (x 0).val; omega
  | ⟨1, _⟩ => show 0 + 1 * (x 1).val = (x 1).val; omega

/-- What the point's store leaves in the output block: the payload of the block of `x` and of the weights as they are read. -/
theorem out_read {a3 : Memref sig .tc .vmem S512x6144 .bf16} {a10 : Memref sig .tc .vmem S512x512 .bf16} {a11 : Memref sig .tc .vmem S6144x1024 .bf16}
    (X3 : BufTy.Contents (Elt Ideal) a3.view.ty) (W : BufTy.Contents (Elt Ideal) a11.view.ty) (f : BufTy.Contents (Elt Ideal) a10.view.ty)
    (inb3) (inb11) (inb10) :
    a10.view.read (Elt Ideal) (a10.view.writes (Elt Ideal) f [⟨Rect.unit (s := S512x512) ![0, 0] ![512, 512] inb10,
      k0_pay7 (View.readAt (Elt Ideal) a3.view (Rect.unit (s := S512x6144) ![0, 0] ![512, 6144] inb3).toLoadRect X3)
        (View.readAt (Elt Ideal) a11.view (Rect.unit (s := S6144x1024) ![0, 0] ![6144, 1024] inb11).toLoadRect W)⟩])
      = k0_pay7 (a3.view.read (Elt Ideal) X3) (a11.view.read (Elt Ideal) W) := by
  have e3 : View.readAt (Elt Ideal) a3.view (Rect.unit (s := S512x6144) ![0, 0] ![512, 6144] inb3).toLoadRect X3 = a3.view.read (Elt Ideal) X3 := by
    funext x
    exact congrArg (a3.view.read (Elt Ideal) X3) (emb_zero2 512 6144 inb3 x)
  have e11 : View.readAt (Elt Ideal) a11.view (Rect.unit (s := S6144x1024) ![0, 0] ![6144, 1024] inb11).toLoadRect W = a11.view.read (Elt Ideal) W := by
    funext x
    exact congrArg (a11.view.read (Elt Ideal) W) (emb_zero2 6144 1024 inb11 x)
  funext y
  refine read_writes_of_pieces a10.view f (k0_pay7 (a3.view.read (Elt Ideal) X3) (a11.view.read (Elt Ideal) W)) _ ?_ y (.inl ⟨_, List.mem_singleton_self _, ?_⟩)
  · intro p hp x
    rw [List.mem_singleton] at hp
    subst hp
    refine (congrFun (congrArg₂ k0_pay7 e3 e11) x).trans ?_
    exact congrArg (k0_pay7 (a3.view.read (Elt Ideal) X3) (a11.view.read (Elt Ideal) W)) (emb_zero2 512 512 inb10 x).symm
  · rw [← Rect.map_emb_univ]
    exact Finset.mem_map.mpr ⟨y, Finset.mem_univ _, emb_zero2 512 512 inb10 y⟩

end Cert.KernelIdeal.Gen

end
-- ==== Proof.KernelIdealValA.lean ====
/- The body's run at a point that dequantizes its block column, with what it computes. -/
module

public import proofs.«01_k».proof.Proof.KernelIdealWeights
public import proofs.«01_k».proof.Proof.KernelIdealOut
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- A table below 48 through every rectangle is below 48 at every index. -/
theorem table_lt (c : Dev nD) (xt0 : TbBuf0 (F := Ideal) c tbM0_0)
    (hX : ∀ (r : LoadRect S6144) (j : r.shape.Idx), BitVec.toNat (View.readAt (Elt Ideal) (tbM0_0).view r xt0 j : BitVec 32) < 48) (y : S6144.Idx) :
    ((tbM0_0).view.read (Elt Ideal) xt0 y : BitVec 32).toNat < 48 := by
  have h := hX (LoadRect.whole S6144) y
  rw [show View.readAt (Elt Ideal) (tbM0_0).view (LoadRect.whole S6144) xt0 = (tbM0_0).view.read (Elt Ideal) xt0 from Memref.readAt_whole _ _ _] at h
  exact h

/-- The weights the row loop leaves, once the tables are those of the block's scales and zeros. -/
theorem weights_read (R2 R4 R5 R6 R7 R8 R9) (Q4 Q5 : S3072x512.Idx → BitVec 8) (R12 R13 : S384x2x128.Idx → EReal) (R14 R15 : S384x128.Idx → BitVec 32)
    (r11 : S6144x1024.Idx → EReal) (h4 : Q4 = R4) (h5 : Q5 = R5) {n : Nat} (hn : 192 * n = 6144)
    (hL : ∀ y : S6144x1024.Idx, (y 0).val < 192 * n → r11 y = weightOf R2 Q4 Q5 R12 R13 R14 R15 (y 0).val (y 1).val)
    (h2 : ∀ y, (R2 y).toNat < 48)
    (h12 : ∀ y, R12 y = loTab R6 R7 (y 0).val (y 1).val (y 2).val) (h13 : ∀ y, R13 y = hiTab R6 R7 (y 0).val (y 1).val (y 2).val)
    (h14 : ∀ y, R14 y = zeroTab 0 R8 R9 (y 0).val (y 1).val) (h15 : ∀ y, R15 y = zeroTab 16 R8 R9 (y 0).val (y 1).val) :
    r11 = fun y => wOf R2 R4 R5 R6 R7 R8 R9 (y 0).val (y 1).val := by
  subst h4 h5
  funext y
  have hy0 : (y 0).val < 6144 := (y 0).isLt
  exact (hL y (by omega)).trans (weightOf_eq R2 Q4 Q5 R6 R7 R8 R9 R12 R13 R14 R15 h2 h12 h13 h14 h15 _ _ (y 1).isLt)

set_option maxHeartbeats 8000000 in set_option sl_exec.stridedRows true in
/-- At a point that begins a block column, the body computes the column's weights from the blocks of codes, scales and zeros,
    leaves them in scratch, and leaves in the output's block the gated product of the block of rows and those weights. -/
theorem kernelVal0_A (c : Dev nD) (i : grid0.Coords) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (hc0 : cond0_0 i)
    (x0 : Vec Ideal S512x6144 .bf16) (x1 : Vec Ideal S3072x512 .i8) (x2 : Vec Ideal S3072x512 .i8) (x3 : Vec Ideal S48x512 .bf16) (x4 : Vec Ideal S48x512 .bf16) (x5 : Vec Ideal S24x512 .i8) (x6 : Vec Ideal S24x512 .i8) (xt0 : TbBuf0 (F := Ideal) c tbM0_0)
    (hX : ∀ (r : LoadRect S6144) (j : r.shape.Idx), BitVec.toNat (View.readAt (Elt Ideal) (tbM0_0).view r xt0 j : BitVec 32) < 48) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay7 x0 (fun y => wOf ((tbM0_0).view.read (Elt Ideal) xt0) x1 x2 x3 x4 x5 x6 (y 0).val (y 1).val)) ∗ owns (c : Thread nD τ) arg11 fullShare (fun y => wOf ((tbM0_0).view.read (Elt Ideal) xt0) x1 x2 x3 x4 x5 x6 (y 0).val (y 1).val) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := Ideal)) Variants.none c none) E (cc0_int4_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_int4_swiglu_eq_skeleton]; unfold cc0_int4_swiglu_skel
    simp only [k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec (disch := first | sl_exact hc0)
    have hW : arg11.view.read (Elt Ideal) fL0 = (fun y => wOf ((tbM0_0).view.read (Elt Ideal) xt0) x1 x2 x3 x4 x5 x6 (y 0).val (y 1).val) := by
      refine weights_read _ x1 x2 x3 x4 x5 x6 _ _ _ _ _ _ _ (harg4.read_unread x1) (harg5.read_unread x2) (by decide) hL7 (table_lt c xt0 hX) ?_ ?_ ?_ ?_
      · intro y; refine (tab12_read (a6 := arg6) (a7 := arg7) arg12.view (harg6.unread x3) (harg7.unread x4) _ y).trans ?_
        rw [harg6.read_unread, harg7.read_unread]
      · intro y; refine (tab13_read (a6 := arg6) (a7 := arg7) arg13.view (harg6.unread x3) (harg7.unread x4) _ y).trans ?_
        rw [harg6.read_unread, harg7.read_unread]
      · intro y; refine (tab14_read (a8 := arg8) (a9 := arg9) arg14.view (harg8.unread x5) (harg9.unread x6) _ y).trans ?_
        rw [harg8.read_unread, harg9.read_unread]
      · intro y; refine (tab15_read (a8 := arg8) (a9 := arg9) arg15.view (harg8.unread x5) (harg9.unread x6) _ y).trans ?_
        rw [harg8.read_unread, harg9.read_unread]
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap; · iexact H7
      ipureintro
      refine (out_read (a3 := arg3) (a10 := arg10) (a11 := arg11) _ _ _ _ _ _).trans ?_
      rw [harg3.read_unread, hW]
    isplitl [HS0]
    · iexists _; isplitr; swap; · iexact HS0
      ipureintro; exact hW
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexact HT0

end Cert.KernelIdeal.Gen

end
-- ==== Proof.KernelIdealValB.lean ====
/- The body's run at a point that finds the weights of its block column in scratch, with what it computes. -/
module

public import proofs.«01_k».proof.Proof.KernelIdealOut
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 8000000 in set_option sl_exec.stridedRows true in
/-- At a point that finds the weights `W` in scratch, the body leaves in the output's block the gated product of the
    rows and `W`, and the weights as they were. -/
theorem kernelVal0_B (c : Dev nD) (i : grid0.Coords) (arg3 : Memref sig .tc .vmem S512x6144 .bf16) (harg3 : arg3.IsWhole) (arg4 : Memref sig .tc .vmem S3072x512 .i8) (harg4 : arg4.IsWhole) (arg5 : Memref sig .tc .vmem S3072x512 .i8) (harg5 : arg5.IsWhole) (arg6 : Memref sig .tc .vmem S48x512 .bf16) (harg6 : arg6.IsWhole) (arg7 : Memref sig .tc .vmem S48x512 .bf16) (harg7 : arg7.IsWhole) (arg8 : Memref sig .tc .vmem S24x512 .i8) (harg8 : arg8.IsWhole) (arg9 : Memref sig .tc .vmem S24x512 .i8) (harg9 : arg9.IsWhole) (arg10 : Memref sig .tc .vmem S512x512 .bf16) (harg10 : arg10.IsWhole) (arg11 : Memref sig .tc .vmem S6144x1024 .bf16) (harg11 : arg11.IsWhole) (arg12 : Memref sig .tc .vmem S384x2x128 .bf16) (harg12 : arg12.IsWhole) (arg13 : Memref sig .tc .vmem S384x2x128 .bf16) (harg13 : arg13.IsWhole) (arg14 : Memref sig .tc .vmem S384x128 .i32) (harg14 : arg14.IsWhole) (arg15 : Memref sig .tc .vmem S384x128 .i32) (harg15 : arg15.IsWhole) (arg16 : Memref sig .tc .vmem S768x2x128 .bf16) (harg16 : arg16.IsWhole) (arg17 : Memref sig .tc .vmem S768x128 .i32) (harg17 : arg17.IsWhole) (hc0 : ¬cond0_0 i)
    (x0 : Vec Ideal S512x6144 .bf16) (x1 : Vec Ideal S3072x512 .i8) (x2 : Vec Ideal S3072x512 .i8) (x3 : Vec Ideal S48x512 .bf16) (x4 : Vec Ideal S48x512 .bf16) (x5 : Vec Ideal S24x512 .i8) (x6 : Vec Ideal S24x512 .i8) (xt0 : TbBuf0 (F := Ideal) c tbM0_0) (W : Vec Ideal S6144x1024 .bf16) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare W ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare (k0_pay7 x0 W) ∗ owns (c : Thread nD τ) arg11 fullShare W ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ tbPt0 c tbM0_0 xt0) -∗ K ⟨⟩))
          ⊢ wp frame (wpE (defs₀ (F := Ideal)) Variants.none c none) E (cc0_int4_swiglu i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
    intro E K
    simp only [cc0_int4_swiglu_eq_skeleton]; unfold cc0_int4_swiglu_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hs0, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; swap; · iexact H7
      ipureintro
      refine (out_read (a3 := arg3) (a10 := arg10) (a11 := arg11) _ _ _ _ _ _).trans ?_
      rw [harg3.read_unread, harg11.read_unread]
    isplitl [HS0]
    · iexists _; isplitr; · ipureintro; exact harg11.read_unread _
      iexact HS0
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexact HT0

end Cert.KernelIdeal.Gen

end
-- ==== Proof.KernelIdealBlocks.lean ====
/- The blocks `KernelIdeal`'s points read, as parts of the arrays the launch finds, and the result a point computes from them. -/
module

public import proofs.«01_k».proof.Proof.KernelIdealWeights
public import Idealize.ShloMosaic.PureOps.Ideal.Laws
public import Idealize.ShloMosaic.Lib.MatmulPlain
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ)

/-- The block column of a point, and the row block. -/
theorem coord0 (t : Fin grid0.N) : (BitVec.ofNat 32 (grid0.coords t 0).val).toNat = t.val / 32 := by
  have ht : t.val < 640 := Nat.lt_of_lt_of_eq t.isLt N_0
  have e0 : (grid0.coords t 0).val = t.val / 32 % 20 := Pipeline.Grid.coords_val t 0 (by decide) rfl
  rw [BitVec.toNat_ofNat, e0]
  omega
/-- The row block of a point. -/
theorem coord1 (t : Fin grid0.N) : (BitVec.ofNat 32 (grid0.coords t 1).val).toNat = t.val % 32 := by
  have e1 : (grid0.coords t 1).val = t.val / 1 % 32 := Pipeline.Grid.coords_val t 1 (by decide) rfl
  rw [BitVec.toNat_ofNat, e1]
  omega

/-- Window 0's block at a point is 512 rows of the activations. -/
theorem iblk0_apply (hO : Ok m) (c : Dev nD) (t : Fin (cfgM m hO).N) (y : S512x6144.Idx) :
    iblk m hO c 0 t y = at2 (n := 16384) (m := 6144) (V m c main_v0) (512 * (t.val % 32) + (y 0).val) (y 1).val := by
  refine at2_of (n := 16384) (m := 6144) (V m c main_v0) ((((cfgM m hO).win 0).blk t).view.emb y) _ _ ?_ ?_
  · show (BitVec.ofNat 32 (grid0.coords t 1).val).toNat * 512 + 1 * (y 0).val = _
    rw [coord1]; omega
  · show (0#32 : BitVec 32).toNat * 6144 + 1 * (y 1).val = _
    show 0 * 6144 + 1 * (y 1).val = _
    omega

/-- Window 1's block at a point is 512 columns of its array. -/
theorem iblk1_apply (hO : Ok m) (c : Dev nD) (t : Fin (cfgM m hO).N) (y : S3072x512.Idx) :
    iblk m hO c 1 t y = at2 (n := 3072) (m := 10240) (V m c main_arg1) (y 0).val (512 * (t.val / 32) + (y 1).val) := by
  refine at2_of (n := 3072) (m := 10240) (V m c main_arg1) ((((cfgM m hO).win 1).blk t).view.emb y) _ _ ?_ ?_
  · show 0 * 3072 + 1 * (y 0).val = _
    omega
  · show (BitVec.ofNat 32 (grid0.coords t 0).val).toNat * 512 + 1 * (y 1).val = _
    rw [coord0]; omega

/-- Window 2's block at a point is 512 columns of its array. -/
theorem iblk2_apply (hO : Ok m) (c : Dev nD) (t : Fin (cfgM m hO).N) (y : S3072x512.Idx) :
    iblk m hO c 2 t y = at2 (n := 3072) (m := 10240) (V m c main_arg2) (y 0).val (512 * (t.val / 32) + (y 1).val) := by
  refine at2_of (n := 3072) (m := 10240) (V m c main_arg2) ((((cfgM m hO).win 2).blk t).view.emb y) _ _ ?_ ?_
  · show 0 * 3072 + 1 * (y 0).val = _
    omega
  · show (BitVec.ofNat 32 (grid0.coords t 0).val).toNat * 512 + 1 * (y 1).val = _
    rw [coord0]; omega

/-- Window 3's block at a point is 512 columns of its array. -/
theorem iblk3_apply (hO : Ok m) (c : Dev nD) (t : Fin (cfgM m hO).N) (y : S48x512.Idx) :
    iblk m hO c 3 t y = at2 (n := 48) (m := 10240) (V m c main_arg3) (y 0).val (512 * (t.val / 32) + (y 1).val) := by
  refine at2_of (n := 48) (m := 10240) (V m c main_arg3) ((((cfgM m hO).win 3).blk t).view.emb y) _ _ ?_ ?_
  · show 0 * 48 + 1 * (y 0).val = _
    omega
  · show (BitVec.ofNat 32 (grid0.coords t 0).val).toNat * 512 + 1 * (y 1).val = _
    rw [coord0]; omega

/-- Window 4's block at a point is 512 columns of its array. -/
theorem iblk4_apply (hO : Ok m) (c : Dev nD) (t : Fin (cfgM m hO).N) (y : S48x512.Idx) :
    iblk m hO c 4 t y = at2 (n := 48) (m := 10240) (V m c main_arg4) (y 0).val (512 * (t.val / 32) + (y 1).val) := by
  refine at2_of (n := 48) (m := 10240) (V m c main_arg4) ((((cfgM m hO).win 4).blk t).view.emb y) _ _ ?_ ?_
  · show 0 * 48 + 1 * (y 0).val = _
    omega
  · show (BitVec.ofNat 32 (grid0.coords t 0).val).toNat * 512 + 1 * (y 1).val = _
    rw [coord0]; omega

/-- Window 5's block at a point is 512 columns of its array. -/
theorem iblk5_apply (hO : Ok m) (c : Dev nD) (t : Fin (cfgM m hO).N) (y : S24x512.Idx) :
    iblk m hO c 5 t y = at2 (n := 24) (m := 10240) (V m c main_arg5) (y 0).val (512 * (t.val / 32) + (y 1).val) := by
  refine at2_of (n := 24) (m := 10240) (V m c main_arg5) ((((cfgM m hO).win 5).blk t).view.emb y) _ _ ?_ ?_
  · show 0 * 24 + 1 * (y 0).val = _
    omega
  · show (BitVec.ofNat 32 (grid0.coords t 0).val).toNat * 512 + 1 * (y 1).val = _
    rw [coord0]; omega

/-- Window 6's block at a point is 512 columns of its array. -/
theorem iblk6_apply (hO : Ok m) (c : Dev nD) (t : Fin (cfgM m hO).N) (y : S24x512.Idx) :
    iblk m hO c 6 t y = at2 (n := 24) (m := 10240) (V m c main_arg6) (y 0).val (512 * (t.val / 32) + (y 1).val) := by
  refine at2_of (n := 24) (m := 10240) (V m c main_arg6) ((((cfgM m hO).win 6).blk t).view.emb y) _ _ ?_ ?_
  · show 0 * 24 + 1 * (y 0).val = _
    omega
  · show (BitVec.ofNat 32 (grid0.coords t 0).val).toNat * 512 + 1 * (y 1).val = _
    rw [coord0]; omega

/-- The dequantized weight of the whole matrix at row `ρ` and column `n`: the nibble less its group's zero, times its
    group's scale. -/
def wFull (R2 : S6144.Idx → BitVec 32) (Q : S3072x10240.Idx → BitVec 8) (S : S48x10240.Idx → EReal) (Z : S24x10240.Idx → BitVec 8)
    (ρ n : Nat) : EReal :=
  ((((nib (ρ % 2) (at2 (n := 3072) (m := 10240) Q (ρ / 2) n) : ℝ)
      - (nib ((at1 (n := 6144) R2 ρ).toNat / 24) (at2 (n := 24) (m := 10240) Z ((at1 (n := 6144) R2 ρ).toNat % 24) n) : ℝ) : ℝ)) : EReal)
    * at2 (n := 48) (m := 10240) S (at1 (n := 6144) R2 ρ).toNat n

/-- The weights of a block column, from blocks that are columns `512·j …` of the arrays, are those columns of the whole
    matrix: the gate's in columns below 512, the up's above. -/
theorem wOf_eq_wFull (R2 : S6144.Idx → BitVec 32) (B4 B5 : S3072x512.Idx → BitVec 8) (B6 B7 : S48x512.Idx → EReal) (B8 B9 : S24x512.Idx → BitVec 8)
    (Q4 Q5 : S3072x10240.Idx → BitVec 8) (Q6 Q7 : S48x10240.Idx → EReal) (Q8 Q9 : S24x10240.Idx → BitVec 8) (j : Nat)
    (h2 : ∀ y, (R2 y).toNat < 48)
    (h4 : ∀ y, B4 y = at2 (n := 3072) (m := 10240) Q4 (y 0).val (512 * j + (y 1).val))
    (h5 : ∀ y, B5 y = at2 (n := 3072) (m := 10240) Q5 (y 0).val (512 * j + (y 1).val))
    (h6 : ∀ y, B6 y = at2 (n := 48) (m := 10240) Q6 (y 0).val (512 * j + (y 1).val))
    (h7 : ∀ y, B7 y = at2 (n := 48) (m := 10240) Q7 (y 0).val (512 * j + (y 1).val))
    (h8 : ∀ y, B8 y = at2 (n := 24) (m := 10240) Q8 (y 0).val (512 * j + (y 1).val))
    (h9 : ∀ y, B9 y = at2 (n := 24) (m := 10240) Q9 (y 0).val (512 * j + (y 1).val))
    (ρ κ : Nat) (hρ : ρ < 6144) :
    wOf R2 B4 B5 B6 B7 B8 B9 ρ κ
      = if κ < 512 then wFull R2 Q4 Q6 Q8 ρ (512 * j + κ % 512) else wFull R2 Q5 Q7 Q9 ρ (512 * j + κ % 512) := by
  have g48 : (at1 (n := 6144) R2 ρ).toNat < 48 := h2 _
  have e2 : ∀ {n : Nat} [NeZero n] {α : Type} (B : (⟨2, ![n, 512]⟩ : Shape).Idx → α) (Q : (⟨2, ![n, 10240]⟩ : Shape).Idx → α)
      (h : ∀ y, B y = at2 (n := n) (m := 10240) Q (y 0).val (512 * j + (y 1).val)) (a : Nat) (ha : a < n),
      at2 (n := n) (m := 512) B a (κ % 512) = at2 (n := n) (m := 10240) Q a (512 * j + κ % 512) := by
    intro n _ α B Q h a ha
    refine (h _).trans ?_
    show at2 (n := n) (m := 10240) Q (a % n) (512 * j + κ % 512 % 512) = _
    rw [Nat.mod_eq_of_lt ha, Nat.mod_mod]
  unfold wOf wFull
  split
  · rw [e2 _ _ h4 _ (by omega), e2 _ _ h6 _ g48, e2 _ _ h8 _ (by omega)]
  · rw [e2 _ _ h5 _ (by omega), e2 _ _ h7 _ g48, e2 _ _ h9 _ (by omega)]

/-- The gated product at row `r` and column `n`, from the activations and the two weight matrices. -/
def gatedAt (X : S16384x6144.Idx → EReal) (Wg Wu : Nat → Nat → EReal) (r n : Nat) : EReal :=
  (∑ k : Fin 6144, at2 (n := 16384) (m := 6144) X r k.val * Wg k.val n)
    * Ideal.logistic (∑ k : Fin 6144, at2 (n := 16384) (m := 6144) X r k.val * Wg k.val n)
    * (∑ k : Fin 6144, at2 (n := 16384) (m := 6144) X r k.val * Wu k.val n)

/-- The product of the block of rows and the weights, entry by entry. -/
theorem product_apply (X : S512x6144.Idx → EReal) (W : S6144x1024.Idx → EReal) (p : Fin 512) (q : Fin 1024) :
    (matmul (F := Ideal) (φ₁ := .bf16) (φ₂ := .bf16) dot_S512x6144_S6144x1024_S512x1024_1_0_0_1_n_n none X W
        (constant S512x1024 .f32 0x00000000#32) : FVec Ideal S512x1024 .f32) (ix2 p q)
      = ∑ k : Fin 6144, at2 (n := 512) (m := 6144) X p.val k.val * at2 (n := 6144) (m := 1024) W k.val q.val := by
  refine (Ideal.matmul_plain_apply (M := 512) (K := 6144) (N := 1024) (φ₁ := .bf16) (φ₂ := .bf16) none X W _ p q).trans ?_
  have hz : (constant S512x1024 .f32 0x00000000#32 : FVec Ideal S512x1024 .f32) (ix2 p q) = (0 : EReal) := Ideal.ofBits_zero_f32
  exact (congrArg₂ (· + ·) hz (Finset.sum_congr rfl fun k _ => congrArg₂ (· * ·)
    (at2_of (n := 512) (m := 6144) X (ValueIdx.ix2 p k) p.val k.val rfl rfl)
    (at2_of (n := 6144) (m := 1024) W (ValueIdx.ix2 k q) k.val q.val rfl rfl))).trans (zero_add _)

/-- What a point stores, entry by entry: the gated product of a row of the block and two columns of the weights. -/
theorem pay7_apply (X : S512x6144.Idx → EReal) (W : S6144x1024.Idx → EReal) (y : S512x512.Idx) :
    k0_pay7 (F := Ideal) X W y
      = (∑ k : Fin 6144, at2 (n := 512) (m := 6144) X (y 0).val k.val * at2 (n := 6144) (m := 1024) W k.val (y 1).val)
        * Ideal.logistic (∑ k : Fin 6144, at2 (n := 512) (m := 6144) X (y 0).val k.val * at2 (n := 6144) (m := 1024) W k.val (y 1).val)
        * (∑ k : Fin 6144, at2 (n := 512) (m := 6144) X (y 0).val k.val * at2 (n := 6144) (m := 1024) W k.val (512 + (y 1).val)) := by
  have hy0 : (y 0).val < 512 := (y 0).isLt
  have hy1 : (y 1).val < 512 := (y 1).isLt
  unfold k0_pay7
  rw [shapeCast_self]
  have e := product_apply X W
  generalize (matmul (F := Ideal) (φ₁ := .bf16) (φ₂ := .bf16) dot_S512x6144_S6144x1024_S512x1024_1_0_0_1_n_n none X W
        (constant S512x1024 .f32 0x00000000#32) : FVec Ideal S512x1024 .f32) = P at e ⊢
  have e0 : extractStridedSlice S512x512 ![0, 0] P slices_S512x1024_o0_0_S512x512 y = P (ix2 ⟨(y 0).val, hy0⟩ ⟨(y 1).val, by omega⟩) :=
    extractStridedSlice_apply ![0, 0] P _ y _ fun a => match a with
      | ⟨0, _⟩ => (Nat.zero_add _).symm
      | ⟨1, _⟩ => (Nat.zero_add _).symm
  have e1 : extractStridedSlice S512x512 ![0, 512] P slices_S512x1024_o0_512_S512x512 y = P (ix2 ⟨(y 0).val, hy0⟩ ⟨512 + (y 1).val, by omega⟩) :=
    extractStridedSlice_apply ![0, 512] P _ y _ fun a => match a with
      | ⟨0, _⟩ => (Nat.zero_add _).symm
      | ⟨1, _⟩ => rfl
  show extractStridedSlice S512x512 ![0, 0] P slices_S512x1024_o0_0_S512x512 y
      * Ideal.logistic (extractStridedSlice S512x512 ![0, 0] P slices_S512x1024_o0_0_S512x512 y)
      * extractStridedSlice S512x512 ![0, 512] P slices_S512x1024_o0_512_S512x512 y = _
  rw [e0, e1, e, e]

end Cert.KernelIdeal.Gen

end
-- ==== Proof.KernelIdealTrack.lean ====
/- The pipeline of `KernelIdeal` with what its buffers hold: after every point the scratch buffer holds the weights of the
   point's block column, and the output's block is the gated product of the point's rows and those weights. -/
module

public import proofs.«01_k».proof.Proof.KernelIdealFrame
public import proofs.«01_k».proof.Proof.KernelIdealValA
public import proofs.«01_k».proof.Proof.KernelIdealValB
public import proofs.«01_k».proof.Proof.KernelIdealBlocks
public import Idealize.ShloMosaic.PureOps.Ideal.Laws
public import Idealize.ShloMosaic.Lib.Pointwise
public import Idealize.ShloMosaic.Lib.BitcastPair
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The row groups the kernel reads. -/
abbrev groupsOf : S6144.Idx → BitVec 32 := (tbM0_0).view.read (Elt Ideal) (tbl m 0)

/-- The gate's weights, of the arrays the launch finds, -/
def wGate (c : Dev nD) : Nat → Nat → EReal := wFull (groupsOf m) (V m c main_arg1) (V m c main_arg3) (V m c main_arg5)
/-- and the up projection's. -/
def wUp (c : Dev nD) : Nat → Nat → EReal := wFull (groupsOf m) (V m c main_arg2) (V m c main_arg4) (V m c main_arg6)

/-- The weights of block column `j`: 512 columns of the gate's, then the same 512 of the up projection's. -/
def wCol (c : Dev nD) (j : Nat) : Vec Ideal S6144x1024 .bf16 :=
  fun y => if (y 1).val < 512 then wGate m c (y 0).val (512 * j + (y 1).val % 512) else wUp m c (y 0).val (512 * j + (y 1).val % 512)

/-- The weights computed from a point's blocks are those of its block column. -/
theorem wOf_blocks (hO : Ok m) (hX : Groups m) (c : Dev nD) (t : Fin (cfgM m hO).N) :
    (fun y : S6144x1024.Idx => wOf ((tbM0_0).view.read (Elt Ideal) (tbl m 0)) (iblk m hO c 1 t) (iblk m hO c 2 t) (iblk m hO c 3 t) (iblk m hO c 4 t) (iblk m hO c 5 t) (iblk m hO c 6 t) (y 0).val (y 1).val)
      = wCol m c (t.val / 32) := by
  funext y
  exact wOf_eq_wFull (groupsOf m) _ _ _ _ _ _ (V m c main_arg1) (V m c main_arg2) (V m c main_arg3) (V m c main_arg4) (V m c main_arg5) (V m c main_arg6)
    (t.val / 32) (table_lt 0 (tbl m 0) hX) (iblk1_apply m hO c t) (iblk2_apply m hO c t) (iblk3_apply m hO c t) (iblk4_apply m hO c t) (iblk5_apply m hO c t) (iblk6_apply m hO c t)
    (y 0).val (y 1).val (y 0).isLt

/-- Before point `k`: the scratch buffers, the first with the weights of the point's block column unless the point begins one,
    and the table. -/
def vPhi (c : Dev nD) (k : Nat) : sProp 𝕄 :=
  iprop(iprop(iprop((∃ d, ⌜k % 32 ≠ 0 → d = wCol m c (k / 32)⌝ ∗ owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) ∗ tbPt0 c tbM0_0 (tbl m 0))

/-- The proof data with contents: each input's block in place, the output's block the gated product of the point's rows and
    its block column's weights; between points of one block column the scratch buffer holds those weights. -/
def vdats (hO : Ok m) (_ : Fin 1) (c : Dev nD) : Dat τ (Elt Ideal) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => k0_pay7 (F := Ideal) (iblk m hO c 0 t) (wCol m c (t.val / 32))
  Φ k := vPhi m c k.val
  q _ := fullShare
  owed _ := 0

/-- The arrays of the proof data are those the launch finds. -/
theorem vA_eq (hO : Ok m) (c : Dev nD) (w : Fin (cfgM m hO).W) : (vdats m hO 0 c).A w = V m c (Pipeline.arrRef spec0 w) := by
  dsimp only [vdats]

/-- The scratch state before a point, -/
theorem vPhi_castSucc (hO : Ok m) (c : Dev nD) (t : Fin (cfgM m hO).N) : (vdats m hO 0 c).Φ t.castSucc = vPhi m c t.val := by
  dsimp only [vdats]
  exact congrArg (vPhi m c) (Fin.val_castSucc t)
/-- after it, -/
theorem vPhi_succ (hO : Ok m) (c : Dev nD) (t : Fin (cfgM m hO).N) : (vdats m hO 0 c).Φ t.succ = vPhi m c (t.val + 1) := by
  dsimp only [vdats]
  exact congrArg (vPhi m c) (Fin.val_succ t)
/-- before the first point -/
theorem vPhi_zero (hO : Ok m) (c : Dev nD) : (vdats m hO 0 c).Φ 0 = vPhi m c 0 := by
  dsimp only [vdats]
  exact congrArg (vPhi m c) (Fin.val_zero _)
/-- and after the last. -/
theorem vPhi_last (hO : Ok m) (c : Dev nD) : (vdats m hO 0 c).Φ (Fin.last (cfgM m hO).N) = vPhi m c (cfgM m hO).N := by
  dsimp only [vdats]
  exact congrArg (vPhi m c) (Fin.val_last _)

/-- What the body leaves in window 0. -/
theorem vafter_0 (hO : Ok m) (c : Dev nD) (t : Fin (cfgM m hO).N) : (vdats m hO 0 c).after 0 t = iblk m hO c 0 t := by dsimp only [vdats]; try rfl
/-- What the body leaves in window 1. -/
theorem vafter_1 (hO : Ok m) (c : Dev nD) (t : Fin (cfgM m hO).N) : (vdats m hO 0 c).after 1 t = iblk m hO c 1 t := by dsimp only [vdats]; try rfl
/-- What the body leaves in window 2. -/
theorem vafter_2 (hO : Ok m) (c : Dev nD) (t : Fin (cfgM m hO).N) : (vdats m hO 0 c).after 2 t = iblk m hO c 2 t := by dsimp only [vdats]; try rfl
/-- What the body leaves in window 3. -/
theorem vafter_3 (hO : Ok m) (c : Dev nD) (t : Fin (cfgM m hO).N) : (vdats m hO 0 c).after 3 t = iblk m hO c 3 t := by dsimp only [vdats]; try rfl
/-- What the body leaves in window 4. -/
theorem vafter_4 (hO : Ok m) (c : Dev nD) (t : Fin (cfgM m hO).N) : (vdats m hO 0 c).after 4 t = iblk m hO c 4 t := by dsimp only [vdats]; try rfl
/-- What the body leaves in window 5. -/
theorem vafter_5 (hO : Ok m) (c : Dev nD) (t : Fin (cfgM m hO).N) : (vdats m hO 0 c).after 5 t = iblk m hO c 5 t := by dsimp only [vdats]; try rfl
/-- What the body leaves in window 6. -/
theorem vafter_6 (hO : Ok m) (c : Dev nD) (t : Fin (cfgM m hO).N) : (vdats m hO 0 c).after 6 t = iblk m hO c 6 t := by dsimp only [vdats]; try rfl
/-- What the body leaves in window 7. -/
theorem vafter_7 (hO : Ok m) (c : Dev nD) (t : Fin (cfgM m hO).N) : (vdats m hO 0 c).after 7 t = k0_pay7 (F := Ideal) (iblk m hO c 0 t) (wCol m c (t.val / 32)) := by dsimp only [vdats]; try rfl

/-- What the body finds in window 0. -/
theorem vbefore_0 (hO : Ok m) (c : Dev nD) (t : Fin (cfgM m hO).N) (d) : (vdats m hO 0 c).before 0 t d = iblk m hO c 0 t :=
  before0_0_of m hO (vdats m hO 0 c) (vA_eq m hO c 0) (vafter_0 m hO c) t d
/-- What the body finds in window 1. -/
theorem vbefore_1 (hO : Ok m) (c : Dev nD) (t : Fin (cfgM m hO).N) (d) : (vdats m hO 0 c).before 1 t d = iblk m hO c 1 t :=
  before0_1_of m hO (vdats m hO 0 c) (vA_eq m hO c 1) (vafter_1 m hO c) t d
/-- What the body finds in window 2. -/
theorem vbefore_2 (hO : Ok m) (c : Dev nD) (t : Fin (cfgM m hO).N) (d) : (vdats m hO 0 c).before 2 t d = iblk m hO c 2 t :=
  before0_2_of m hO (vdats m hO 0 c) (vA_eq m hO c 2) (vafter_2 m hO c) t d
/-- What the body finds in window 3. -/
theorem vbefore_3 (hO : Ok m) (c : Dev nD) (t : Fin (cfgM m hO).N) (d) : (vdats m hO 0 c).before 3 t d = iblk m hO c 3 t :=
  before0_3_of m hO (vdats m hO 0 c) (vA_eq m hO c 3) (vafter_3 m hO c) t d
/-- What the body finds in window 4. -/
theorem vbefore_4 (hO : Ok m) (c : Dev nD) (t : Fin (cfgM m hO).N) (d) : (vdats m hO 0 c).before 4 t d = iblk m hO c 4 t :=
  before0_4_of m hO (vdats m hO 0 c) (vA_eq m hO c 4) (vafter_4 m hO c) t d
/-- What the body finds in window 5. -/
theorem vbefore_5 (hO : Ok m) (c : Dev nD) (t : Fin (cfgM m hO).N) (d) : (vdats m hO 0 c).before 5 t d = iblk m hO c 5 t :=
  before0_5_of m hO (vdats m hO 0 c) (vA_eq m hO c 5) (vafter_5 m hO c) t d
/-- What the body finds in window 6. -/
theorem vbefore_6 (hO : Ok m) (c : Dev nD) (t : Fin (cfgM m hO).N) (d) : (vdats m hO 0 c).before 6 t d = iblk m hO c 6 t :=
  before0_6_of m hO (vdats m hO 0 c) (vA_eq m hO c 6) (vafter_6 m hO c) t d

/-- What the body is called with at point `t`, the windows one by one, -/
def vbodyPre (hO : Ok m) (c : Dev nD) (t : Fin (cfgM m hO).N) : sProp 𝕄 :=
  iprop((vdats m hO 0 c).Φ t.castSucc ∗ (vdats m hO 0 c).owesAt () t.castSucc
    ∗ (∃ d, owns (c : Thread nD τ) (ms0_0 m hO t) fullShare ((vdats m hO 0 c).before 0 t d))
    ∗ (∃ d, owns (c : Thread nD τ) (ms0_1 m hO t) fullShare ((vdats m hO 0 c).before 1 t d))
    ∗ (∃ d, owns (c : Thread nD τ) (ms0_2 m hO t) fullShare ((vdats m hO 0 c).before 2 t d))
    ∗ (∃ d, owns (c : Thread nD τ) (ms0_3 m hO t) fullShare ((vdats m hO 0 c).before 3 t d))
    ∗ (∃ d, owns (c : Thread nD τ) (ms0_4 m hO t) fullShare ((vdats m hO 0 c).before 4 t d))
    ∗ (∃ d, owns (c : Thread nD τ) (ms0_5 m hO t) fullShare ((vdats m hO 0 c).before 5 t d))
    ∗ (∃ d, owns (c : Thread nD τ) (ms0_6 m hO t) fullShare ((vdats m hO 0 c).before 6 t d))
    ∗ (∃ d, owns (c : Thread nD τ) (ms0_7 m hO t) fullShare ((vdats m hO 0 c).before 7 t d)))

/-- and what it returns. -/
def vbodyPost (hO : Ok m) (c : Dev nD) (t : Fin (cfgM m hO).N) : sProp 𝕄 :=
  iprop((vdats m hO 0 c).Φ t.succ ∗ (vdats m hO 0 c).owesAt () t.succ
    ∗ owns (c : Thread nD τ) (ms0_0 m hO t) fullShare ((vdats m hO 0 c).after 0 t)
    ∗ owns (c : Thread nD τ) (ms0_1 m hO t) fullShare ((vdats m hO 0 c).after 1 t)
    ∗ owns (c : Thread nD τ) (ms0_2 m hO t) fullShare ((vdats m hO 0 c).after 2 t)
    ∗ owns (c : Thread nD τ) (ms0_3 m hO t) fullShare ((vdats m hO 0 c).after 3 t)
    ∗ owns (c : Thread nD τ) (ms0_4 m hO t) fullShare ((vdats m hO 0 c).after 4 t)
    ∗ owns (c : Thread nD τ) (ms0_5 m hO t) fullShare ((vdats m hO 0 c).after 5 t)
    ∗ owns (c : Thread nD τ) (ms0_6 m hO t) fullShare ((vdats m hO 0 c).after 6 t)
    ∗ owns (c : Thread nD τ) (ms0_7 m hO t) fullShare ((vdats m hO 0 c).after 7 t))

set_option maxHeartbeats 2400000 in
/-- The body at any point: it finds the block column's weights in scratch or computes them, leaves them there, and stores
    the gated product. -/
theorem vsound_body (hO : Ok m) (hX : Groups m) (c : Dev nD) (t : Fin (cfgM m hO).N) :
    vbodyPre m hO c t ⊢ wp Idealize.ShloMosaic.frame (wpE (defs₀ (F := Ideal)) Variants.none c none) Set.univ (bodyAt0 (adm m hO) t) (fun _ => vbodyPost m hO c t) := by
  unfold vbodyPre vbodyPost bodyAt0
  simp only [vbefore_0, vbefore_1, vbefore_2, vbefore_3, vbefore_4, vbefore_5, vbefore_6]
  rw [show (vdats m hO 0 c).owesAt () t.succ = (vdats m hO 0 c).owesAt () t.castSucc from rfl,
    vafter_0, vafter_1, vafter_2, vafter_3, vafter_4, vafter_5, vafter_6, vafter_7]
  rw [vPhi_succ m hO c t, vPhi_castSucc m hO c t]
  unfold vPhi
  have hN : t.val < 640 := lt_of_lt_of_eq t.isLt (show (cfgM m hO).N = 640 from N_0)
  by_cases h0 : t.val % 32 = 0
  · rw [← wOf_blocks m hO hX c t]
    iintro ⟨⟨⟨⟨⟨%w, %hw, HS0⟩, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelVal0_A c (grid0.coords t) _ _ _ _ _ _ _ _ _ _ _ _ _ _ _ _ _ _ _ _ _ _ _ _ _ _ _ _ _ _ ((hcond0_0 t).mpr h0) (iblk m hO c 0 t) (iblk m hO c 1 t) (iblk m hO c 2 t) (iblk m hO c 3 t) (iblk m hO c 4 t) (iblk m hO c 5 t) (iblk m hO c 6 t) (tbl m 0) hX) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexists _; iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HT0]; · iexact HT0
    iintro ⟨H0, H1, H2, H3, H4, H5, H6, H7, HS0, HS1, HS2, HS3, HS4, HS5, HS6, HT0⟩
    isplitl [HS0 HS1 HS2 HS3 HS4 HS5 HS6 Hg HT0]
    · isplitl [HS0 HS1 HS2 HS3 HS4 HS5 HS6 Hg]
      · isplitl [HS0 HS1 HS2 HS3 HS4 HS5 HS6]
        · isplitl [HS0]
          · iexists _; isplitr; swap; · iexact HS0
            ipureintro; intro h1
            rw [wOf_blocks m hO hX c t, show (t.val + 1) / 32 = t.val / 32 from by omega]
          isplitl [HS1]
          · iexact HS1
          isplitl [HS2]
          · iexact HS2
          isplitl [HS3]
          · iexact HS3
          isplitl [HS4]
          · iexact HS4
          isplitl [HS5]
          · iexact HS5
          iexact HS6
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro ⟨⟨⟨⟨⟨%w, %hw, HS0⟩, HS1, HS2, HS3, HS4, HS5, HS6⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩⟩
    obtain rfl := hw h0
    iapply ((kernelVal0_B c (grid0.coords t) _ _ _ _ _ _ _ _ _ _ _ _ _ _ _ _ _ _ _ _ _ _ _ _ _ _ _ _ _ _ (fun h => h0 ((hcond0_0 t).mp h)) (iblk m hO c 0 t) (iblk m hO c 1 t) (iblk m hO c 2 t) (iblk m hO c 3 t) (iblk m hO c 4 t) (iblk m hO c 5 t) (iblk m hO c 6 t) (tbl m 0) (wCol m c (t.val / 32))) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [HT0]; · iexact HT0
    iintro ⟨H0, H1, H2, H3, H4, H5, H6, H7, HS0, HS1, HS2, HS3, HS4, HS5, HS6, HT0⟩
    isplitl [HS0 HS1 HS2 HS3 HS4 HS5 HS6 Hg HT0]
    · isplitl [HS0 HS1 HS2 HS3 HS4 HS5 HS6 Hg]
      · isplitl [HS0 HS1 HS2 HS3 HS4 HS5 HS6]
        · isplitl [HS0]
          · iexists _; isplitr; swap; · iexact HS0
            ipureintro; intro h1
            rw [show (t.val + 1) / 32 = t.val / 32 from by omega]
          isplitl [HS1]
          · iexact HS1
          isplitl [HS2]
          · iexact HS2
          isplitl [HS3]
          · iexact HS3
          isplitl [HS4]
          · iexact HS4
          isplitl [HS5]
          · iexact HS5
          iexact HS6
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The library's body obligation, at every point. -/
theorem vbody_obligation (hO : Ok m) (hX : Groups m) (c : Dev nD) : BodyObligation (vdats m hO 0 c) (defs₀ (F := Ideal)) Variants.none () Set.univ := fun t => by
  rw [bigSep_W0, bigSep_W0, defs₀_row m hO]
  exact triple_restated (vsound_body m hO hX c t) rfl .rfl fun _ => .rfl

/-- The launch's buffers, at any contents, are what the first point asks, -/
theorem vin (hO : Ok m) (c : Dev nD) : iprop(Pipeline.ΦA spec0 c ∗ Pipeline.ΦT pre0 (tbl m) c) ⊢ (vdats m hO 0 c).Φ 0 := by
  rw [PhiT0_eq, PhiA0_eq]
  rw [vPhi_zero]
  unfold vPhi
  iintro ⟨⟨⟨⟨%w, HS0⟩, HS⟩, Hg⟩, HT0⟩
  isplitl [HS0 HS Hg]
  · isplitl [HS0 HS]
    · isplitl [HS0]
      · iexists _; isplitr; swap; · iexact HS0
        ipureintro; intro h1; exact absurd rfl h1
      iexact HS
    iexact Hg
  iexact HT0

/-- and the last point leaves them at some contents. -/
theorem vout (hO : Ok m) (c : Dev nD) : (vdats m hO 0 c).Φ (Fin.last (cfgM m hO).N) ⊢ Pipeline.ΦA spec0 c := by
  rw [PhiA0_eq]
  rw [vPhi_last]
  unfold vPhi
  iintro ⟨⟨⟨⟨%w, -, HS0⟩, HS⟩, Hg⟩, -⟩
  isplitl [HS0 HS]
  · isplitl [HS0]
    · iexists _; iexact HS0
    iexact HS
  iexact Hg

set_option backward.isDefEq.respectTransparency.types false in
/-- Every run ends with each window's array at what the points wrote back, and every other buffer as the launch found it. -/
theorem vrun (hO : Ok m) (hX : Groups m) : θ_run defs (onTc (τ := τ) (main (F := Ideal))) (s₀ m ρ)
    (fun r => Pipeline.FramePost (Pipeline.pin pcfgs fun _ => adm m hO) (vdats m hO) 0 (V m) r) :=
  Pipeline.θ_run_frameP_track (Q' := _) pcfgs (fun _ => adm m hO) (vdats m hO) (0 : Fin 1) launch0 defs₀ Variants.none m ρ main
    (hbody := fun c => (vbody_obligation m hO hX c).loose) (hshare := fun c => (vdats m hO 0 c).share_full fun _ => rfl)
    (howed := fun _ _ => rfl) (V := V m) (hmain := hmain m Variants.none) (hA := vA_eq m hO) (hpf := V_pre m)
    (hin := vin m hO) (hout := vout m hO)

end Cert.KernelIdeal.Gen

end
-- ==== Proof.KernelIdealResult.lean ====
/- The result array of `KernelIdeal` after the run: the gated product of the activations and the two dequantized matrices. -/
module

public import proofs.«01_k».proof.Proof.KernelIdealTrack
public import Idealize.ShloMosaic.Lib.Quiescent

@[expose] public section

set_option maxRecDepth 16384

noncomputable section

namespace Cert.KernelIdeal.Gen

open Idealize.ShloMosaic Idealize.ShloMosaic.TcCoe Idealize.ShloMosaic.Tactic
open Idealize.SL Idealize.SL.RA Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- The gated product of the arrays the launch finds, as an array. -/
def gated (c : Dev nD) : S16384x10240.Idx → EReal :=
  fun i => gatedAt (V m c main_v0) (wGate m c) (wUp m c) (i 0).val (i 1).val

/-- An entry of the block column's weights in the gate's half, -/
theorem wCol_gate (c : Dev nD) (j k a : Nat) (hk : k < 6144) (ha : a < 512) :
    at2 (n := 6144) (m := 1024) (wCol m c j) k a = wGate m c k (512 * j + a) := by
  have e := at2_of (n := 6144) (m := 1024) (wCol m c j) (ix2 ⟨k, hk⟩ ⟨a, by omega⟩) k a rfl rfl
  rw [← e]
  refine (if_pos ha).trans ?_
  show wGate m c k (512 * j + a % 512) = _
  rw [Nat.mod_eq_of_lt ha]
/-- and in the up projection's. -/
theorem wCol_up (c : Dev nD) (j k a : Nat) (hk : k < 6144) (ha : a < 512) :
    at2 (n := 6144) (m := 1024) (wCol m c j) k (512 + a) = wUp m c k (512 * j + a) := by
  have e := at2_of (n := 6144) (m := 1024) (wCol m c j) (ix2 ⟨k, hk⟩ ⟨512 + a, by omega⟩) k (512 + a) rfl rfl
  rw [← e]
  refine (if_neg (show ¬ 512 + a < 512 by omega)).trans ?_
  show wUp m c k (512 * j + (512 + a) % 512) = _
  rw [show (512 + a) % 512 = a from by omega]

/-- The place of an entry of a point's output block in the result array. -/
abbrev place (hO : Ok m) (t : Fin (cfgM m hO).N) (y : S512x512.Idx) : S16384x10240.Idx := (((cfgM m hO).win 7).blk t).view.emb y

/-- The row of that place, -/
theorem emb7_0 (hO : Ok m) (t : Fin (cfgM m hO).N) (y : S512x512.Idx) :
    (place m hO t y 0).val = 512 * (t.val % 32) + (y 0).val := by
  show (BitVec.ofNat 32 (grid0.coords t 1).val).toNat * 512 + 1 * (y 0).val = _
  rw [coord1]; omega
/-- and its column. -/
theorem emb7_1 (hO : Ok m) (t : Fin (cfgM m hO).N) (y : S512x512.Idx) :
    (place m hO t y 1).val = 512 * (t.val / 32) + (y 1).val := by
  show (BitVec.ofNat 32 (grid0.coords t 0).val).toNat * 512 + 1 * (y 1).val = _
  rw [coord0]; omega

/-- What a point stores, of a block that is 512 rows of a matrix and of weights that are 512 columns of two: the gated
    product of the whole matrices at the entry's place. -/
theorem pay7_gated (X : S16384x6144.Idx → EReal) (B : S512x6144.Idx → EReal) (W : S6144x1024.Idx → EReal) (Wg Wu : Nat → Nat → EReal) (r j : Nat)
    (hB : ∀ y : S512x6144.Idx, B y = at2 (n := 16384) (m := 6144) X (512 * r + (y 0).val) (y 1).val)
    (hg : ∀ k a, k < 6144 → a < 512 → at2 (n := 6144) (m := 1024) W k a = Wg k (512 * j + a))
    (hu : ∀ k a, k < 6144 → a < 512 → at2 (n := 6144) (m := 1024) W k (512 + a) = Wu k (512 * j + a)) (y : S512x512.Idx) :
    k0_pay7 (F := Ideal) B W y = gatedAt X Wg Wu (512 * r + (y 0).val) (512 * j + (y 1).val) := by
  have h0 : (y 0).val < 512 := (y 0).isLt
  have h1 : (y 1).val < 512 := (y 1).isLt
  have hx : ∀ k : Fin 6144, at2 (n := 512) (m := 6144) B (y 0).val k.val
      = at2 (n := 16384) (m := 6144) X (512 * r + (y 0).val) k.val := fun k =>
    (at2_of (n := 512) (m := 6144) B (ix2 ⟨(y 0).val, h0⟩ k) (y 0).val k.val rfl rfl).symm.trans (hB (ix2 ⟨(y 0).val, h0⟩ k))
  have eg : (∑ k : Fin 6144, at2 (n := 512) (m := 6144) B (y 0).val k.val * at2 (n := 6144) (m := 1024) W k.val (y 1).val)
      = ∑ k : Fin 6144, at2 (n := 16384) (m := 6144) X (512 * r + (y 0).val) k.val * Wg k.val (512 * j + (y 1).val) :=
    Finset.sum_congr rfl fun k _ => congrArg₂ (· * ·) (hx k) (hg _ _ k.isLt h1)
  have eu : (∑ k : Fin 6144, at2 (n := 512) (m := 6144) B (y 0).val k.val * at2 (n := 6144) (m := 1024) W k.val (512 + (y 1).val))
      = ∑ k : Fin 6144, at2 (n := 16384) (m := 6144) X (512 * r + (y 0).val) k.val * Wu k.val (512 * j + (y 1).val) :=
    Finset.sum_congr rfl fun k _ => congrArg₂ (· * ·) (hx k) (hu _ _ k.isLt h1)
  refine (pay7_apply B W y).trans ?_
  rw [eg, eu]
  rfl

/-- What a point leaves in its output block, entry by entry: the gated product at the entry's place. -/
theorem after7_apply (hO : Ok m) (c : Dev nD) (t : Fin (cfgM m hO).N) (y : S512x512.Idx) :
    k0_pay7 (F := Ideal) (iblk m hO c 0 t) (wCol m c (t.val / 32)) y = gated m c (place m hO t y) := by
  refine (pay7_gated (V m c main_v0) (iblk m hO c 0 t) (wCol m c (t.val / 32)) (wGate m c) (wUp m c) (t.val % 32) (t.val / 32)
    (iblk0_apply m hO c t) (wCol_gate m c _) (wCol_up m c _) y).trans ?_
  exact (congrArg₂ (gatedAt (V m c main_v0) (wGate m c) (wUp m c)) (emb7_0 m hO t y) (emb7_1 m hO t y)).symm

/-- What a point writes back is its block of the gated product. -/
theorem flushed7_eq (hO : Ok m) (c : Dev nD) (t : Fin (cfgM m hO).N) :
    (vdats m hO 0 c).flushed 7 t = (((cfgM m hO).win 7).blk t).view.read (Elt Ideal) (gated m c) := by
  show ((cfgM m hO).win 7).cut ((cfgM m hO).grid.coords t) ((vdats m hO 0 c).after 7 t) = _
  rw [vafter_7]
  funext y
  exact after7_apply m hO c t y

/-- Every place of the result array lies in some point's block. -/
theorem covered7 (hO : Ok m) (i : S16384x10240.Idx) :
    ∃ t : Fin (cfgM m hO).N, ((cfgM m hO).win 7).flush t = true ∧ i ∈ (((cfgM m hO).win 7).blk t).view.set := by
  have h0 : (i 0).val < 16384 := (i 0).isLt
  have h1 : (i 1).val < 10240 := (i 1).isLt
  have hN : 32 * ((i 1).val / 512) + (i 0).val / 512 < (cfgM m hO).N :=
    lt_of_lt_of_eq (show 32 * ((i 1).val / 512) + (i 0).val / 512 < 640 by omega) (show 640 = (cfgM m hO).N from N_0.symm)
  obtain ⟨t, ht⟩ : ∃ t : Fin (cfgM m hO).N, t.val = 32 * ((i 1).val / 512) + (i 0).val / 512 := ⟨⟨_, hN⟩, rfl⟩
  obtain ⟨y, y0, y1⟩ : ∃ y : S512x512.Idx, (y 0).val = (i 0).val % 512 ∧ (y 1).val = (i 1).val % 512 :=
    ⟨ix2 ⟨(i 0).val % 512, Nat.mod_lt _ (by decide)⟩ ⟨(i 1).val % 512, Nat.mod_lt _ (by decide)⟩, rfl, rfl⟩
  have e : place m hO t y = i := by
    funext a
    refine Fin.ext ?_
    match a with
    | ⟨0, _⟩ =>
      refine (emb7_0 m hO t y).trans ?_
      show _ = (i 0).val
      rw [y0, ht]; omega
    | ⟨1, _⟩ =>
      refine (emb7_1 m hO t y).trans ?_
      show _ = (i 1).val
      rw [y1, ht]; omega
  have h := (((cfgM m hO).win 7).blk t).view.emb_mem_set y
  exact ⟨t, flush0_7 (adm m hO) t, e ▸ h⟩

/-- The result array after the run. -/
theorem final7 (hO : Ok m) (c : Dev nD) : (vdats m hO 0 c).arrAt 7 (cfgM m hO).N = gated m c :=
  (vdats m hO 0 c).arrAt_eq_of_cover 7 (gated m c) (fun t _ => flushed7_eq m hO c t) (covered7 m hO)

/-- Every run ends with the result array at the gated product and the arguments as launched. -/
theorem run (hO : Ok m) (hX : Groups m) : θ_run defs (onTc (τ := τ) (main (F := Ideal))) ⟨m, fun _ => 0, ρ⟩ (fun r => ∀ c : Dev nD,
      r.2.mem ((c.tc : Thread nD τ).loc main_v1) = gated m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 7).trans (final7 m hO c), h.2 c⟩)
    (θ_run_and (vrun m ρ hO hX) (unchanged m ρ hO hX))

/-- The launch finds the activations as the argument's rows. -/
theorem V_main_v0 (c : Dev nD) : V m c main_v0
    = (shapeCast S16384x6144 (m ((c : Thread nD τ).loc main_arg0) : S16384x1x6144.Idx → EReal) shapeCasts_S16384x1x6144_S16384x6144 : S16384x6144.Idx → EReal) := by
  show StableHlo.after hostOps0 (fun b => m (c, b)) (Proc.devRef .tc main_v0) = _
  after_results_simp <;> rfl

/-- The row groups the kernel reads are the argument's. -/
theorem groupsOf_eq (c : Dev nD) : groupsOf m = (m ((c : Thread nD τ).loc main_arg7) : S6144.Idx → BitVec 32) := by
  obtain rfl : c = 0 := Subsingleton.elim _ _
  exact V_main_arg7 m 0

end Cert.KernelIdeal.Gen

end
-- ==== Proof.ReferenceValue.lean ====
/- What the reference computes, entry by entry: the gated product of the activations and the two dequantized matrices. -/
module

public import proofs.«01_k».proof.Proof.KernelIdealBlocks
public import proofs.«01_k».proof.Proof.Gen.ReferenceIdeal.Read
public import Idealize.ShloMosaic.Lib.ValueIdx

@[expose] public section

set_option maxRecDepth 16384

noncomputable section

namespace Cert.ReferenceIdeal.Read

open Cert.ReferenceIdeal Cert.ReferenceIdeal.Gen Idealize.ShloMosaic Idealize.ShloMosaic.TcCoe Idealize.SL.Sem Idealize.ShloMosaic.StableHlo
open Cert.KernelIdeal.Gen (at1 at2 at1_of at2_of nib nib_lt wFull gatedAt)

/-! ## Words -/

/-- The low nibble of a byte, as the word the reference computes, -/
theorem word_lo : ∀ b : BitVec 8, (IntOp.andi (b.setWidth 32) 15#32).toInt = (nib 0 b : Int) := by decide +kernel
/-- and the high nibble. -/
theorem word_hi (b : BitVec 8) : (IntOp.shrsi .host (b.setWidth 32) 4#32).toInt = (nib 1 b : Int) := by
  have h : ∀ b : BitVec 8, ((b.setWidth 32).sshiftRight' 4#32).toInt = (nib 1 b : Int) := by decide +kernel
  exact (congrArg BitVec.toInt (if_pos (show (4#32 : BitVec 32).toNat < 32 by decide))).trans (h b)

/-- A row group below 48 is not negative, so the reference's index is the word itself. -/
theorem index_word (w : BitVec 32) (h : w.toNat < 48) :
    Scalar.select (IntOp.cmpi .slt w 0#32) (IntOp.addi w 48#32) w = w := by
  have e : IntOp.cmpi .slt w 0#32 = 0#1 := by
    have hs : BitVec.slt w 0#32 = false := by
      have hi : w.toInt = (w.toNat : Int) := BitVec.toInt_eq_toNat_of_lt (by omega)
      rw [BitVec.slt]
      simp only [hi, decide_eq_false_iff_not]
      show ¬ (w.toNat : Int) < 0
      omega
    show BitVec.ofBool (BitVec.slt w 0#32) = 0#1
    rw [hs]; rfl
  rw [e]; rfl

/-! ## The row gather -/

section RowGather

variable {α : Type}

/-- The rows of a matrix gathered at one row index per result row: entry `(r, n)` is the matrix's at the clamped row index
    and column `n`. -/
theorem gather_rows_apply (x : S48x10240.Idx → α) (idx : IVec S3072x1 32) (y : S3072x10240.Idx) (w : BitVec 32)
    (hw : idx (ValueIdx.ix2 (n0 := 3072) (n1 := 1) ⟨(y 0).val, (y 0).isLt⟩ 0) = w) (h : w.toNat < 48) :
    Host.gather gather_S48x10240_S3072x1_S3072x10240_1_0_n_n_0_1_110240 x idx y = at2 (n := 48) (m := 10240) x w.toNat (y 1).val := by
  unfold Host.gather
  refine at2_of (n := 48) (m := 10240) x _ _ _ ?_ ?_
  · show gather_S48x10240_S3072x1_S3072x10240_1_0_n_n_0_1_110240.start y idx 0 + gather_S48x10240_S3072x1_S3072x10240_1_0_n_n_0_1_110240.batchCoord y 0
      + gather_S48x10240_S3072x1_S3072x10240_1_0_n_n_0_1_110240.offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S48x10240_S3072x1_S3072x10240_1_0_n_n_0_1_110240.startIndexMap from List.mem_singleton.mpr rfl)]
    have hsi : gather_S48x10240_S3072x1_S3072x10240_1_0_n_n_0_1_110240.siIdx y ⟨List.idxOf (0 : Fin 2) gather_S48x10240_S3072x1_S3072x10240_1_0_n_n_0_1_110240.startIndexMap,
        List.idxOf_lt_length_iff.2 (List.mem_singleton.mpr rfl)⟩ = ValueIdx.ix2 (n0 := 3072) (n1 := 1) ⟨(y 0).val, (y 0).isLt⟩ 0 := by
      funext b; refine Fin.ext ?_
      match b with
      | ⟨0, _⟩ => rfl
      | ⟨1, _⟩ => rfl
    rw [hsi, hw]
    show min w.toInt.toNat (48 - 1) = w.toNat
    have hi : w.toInt = (w.toNat : Int) := BitVec.toInt_eq_toNat_of_lt (by omega)
    rw [hi]; omega
  · show gather_S48x10240_S3072x1_S3072x10240_1_0_n_n_0_1_110240.start y idx 1 + gather_S48x10240_S3072x1_S3072x10240_1_0_n_n_0_1_110240.batchCoord y 1
      + gather_S48x10240_S3072x1_S3072x10240_1_0_n_n_0_1_110240.offCoord y 1 = _
    rw [GatherDims.batchCoord_eq_zero _ _ _ List.not_mem_nil]
    unfold GatherDims.start
    rw [dif_neg (show ¬(1 : Fin 2) ∈ gather_S48x10240_S3072x1_S3072x10240_1_0_n_n_0_1_110240.startIndexMap by
      intro h; exact absurd (List.mem_singleton.mp h) (by decide))]
    unfold GatherDims.offCoord
    rw [dif_pos ((GatherDims.mem_sKept _ _).mpr ⟨fun h => absurd (List.mem_singleton.mp h) (by decide), List.not_mem_nil⟩)]
    show 0 + 0 + (y 1).val = (y 1).val
    omega

end RowGather

/-! ## The weights -/

section Weights

variable (x1 : S3072x10240.Idx → BitVec 8) (x3 : S48x10240.Idx → EReal) (x5 : S24x10240.Idx → BitVec 8) (x7 : S6144.Idx → BitVec 32)

/-- Every second row group, from the first, -/
theorem groups_even (i : S3072.Idx) : val_main_v13 (F := Ideal) x7 i = at1 (n := 6144) x7 (2 * (i 0).val) := by
  unfold val_main_v13 Host.slice
  exact at1_of (n := 6144) x7 _ _ (Nat.zero_add _)
/-- and from the second. -/
theorem groups_odd (i : S3072.Idx) : val_main_v36 (F := Ideal) x7 i = at1 (n := 6144) x7 (2 * (i 0).val + 1) := by
  unfold val_main_v36 Host.slice
  exact at1_of (n := 6144) x7 _ _ (Nat.add_comm 1 _)

/-- The gather's index of a row is its group, for the even rows -/
theorem index_even (h7 : ∀ y, (x7 y).toNat < 48) (i : S3072x1.Idx) :
    val_main_v19 (F := Ideal) x7 i = at1 (n := 6144) x7 (2 * (i 0).val) := by
  rw [val_main_v19_apply, val_main_v18_apply, val_main_v15_apply, val_main_v17_apply, val_main_v14_apply, val_main_v16_apply,
    val_main_c_2_apply, val_main_c_3_apply, groups_even]
  exact index_word _ (h7 _)
/-- and for the odd rows. -/
theorem index_odd (h7 : ∀ y, (x7 y).toNat < 48) (i : S3072x1.Idx) :
    val_main_v42 (F := Ideal) x7 i = at1 (n := 6144) x7 (2 * (i 0).val + 1) := by
  rw [val_main_v42_apply, val_main_v41_apply, val_main_v38_apply, val_main_v40_apply, val_main_v37_apply, val_main_v39_apply,
    val_main_c_7_apply, val_main_c_8_apply, groups_odd]
  exact index_word _ (h7 _)

/-- The zeros are gathered at the scales' indices, for the even rows -/
theorem index_even' : val_main_v26 (F := Ideal) x7 = val_main_v19 (F := Ideal) x7 := rfl
/-- and for the odd rows. -/
theorem index_odd' : val_main_v49 (F := Ideal) x7 = val_main_v42 (F := Ideal) x7 := rfl

/-- The unpacked zeros: the low nibbles of the 24 rows, then the high nibbles. -/
theorem zeros_apply (g n : Nat) (hg : g < 48) (hn : n < 10240) :
    at2 (n := 48) (m := 10240) (val_main_v8 (F := Ideal) x5) g n
      = (((nib (g / 24) (at2 (n := 24) (m := 10240) x5 (g % 24) n) : ℕ) : ℝ) : EReal) := by
  unfold val_main_v8
  have hj : at2 (n := 48) (m := 10240) (concatenate S48x10240 0 [⟨S24x10240, (val_main_v4 (F := Ideal) x5)⟩, ⟨S24x10240, (val_main_v7 (F := Ideal) x5)⟩] concatenates_S24x10240_S24x10240_S48x10240_d0) g n
      = concatenate S48x10240 0 [⟨S24x10240, (val_main_v4 (F := Ideal) x5)⟩, ⟨S24x10240, (val_main_v7 (F := Ideal) x5)⟩] concatenates_S24x10240_S24x10240_S48x10240_d0 (ValueIdx.ix2 (n0 := 48) (n1 := 10240) ⟨g, hg⟩ ⟨n, hn⟩) :=
    (at2_of (n := 48) (m := 10240) _ (ValueIdx.ix2 (n0 := 48) (n1 := 10240) ⟨g, hg⟩ ⟨n, hn⟩) g n rfl rfl).symm
  rw [hj]
  by_cases h : g < 24
  · rw [concatenate_pair_apply_left (t := S48x10240) (s₁ := S24x10240) (s₂ := S24x10240) 0 _ _ _ (ValueIdx.ix2 (n0 := 48) (n1 := 10240) ⟨g, hg⟩ ⟨n, hn⟩) rfl (ValueIdx.ix2 (n0 := 24) (n1 := 10240) ⟨g, h⟩ ⟨n, hn⟩)
      (fun b => match b with | ⟨0, _⟩ => rfl | ⟨1, _⟩ => rfl)]
    rw [val_main_v4_apply, val_main_v3_apply, val_main_v1_apply, val_main_v2_apply, val_main_c_apply]
    rw [Nat.div_eq_of_lt h, Nat.mod_eq_of_lt h,
      at2_of (n := 24) (m := 10240) x5 (ValueIdx.ix2 (n0 := 24) (n1 := 10240) ⟨g, h⟩ ⟨n, hn⟩) g n rfl rfl]
    show ((((IntOp.andi ((at2 (n := 24) (m := 10240) x5 g n).setWidth 32) 15#32).toInt : ℤ) : ℝ) : EReal) = _
    rw [word_lo]
    rfl
  · rw [concatenate_pair_apply_right (t := S48x10240) (s₁ := S24x10240) (s₂ := S24x10240) 0 _ _ _ (ValueIdx.ix2 (n0 := 48) (n1 := 10240) ⟨g, hg⟩ ⟨n, hn⟩) rfl rfl (ValueIdx.ix2 (n0 := 24) (n1 := 10240) ⟨g - 24, by omega⟩ ⟨n, hn⟩)
      (fun b => match b with | ⟨0, _⟩ => fun hb => absurd rfl hb | ⟨1, _⟩ => fun _ => rfl)
      (by show g - 24 + 24 = g; omega)]
    rw [val_main_v7_apply, val_main_v6_apply, val_main_v1_apply, val_main_v5_apply, val_main_c_0_apply]
    rw [show g / 24 = 1 from by omega, show g % 24 = g - 24 from by omega,
      at2_of (n := 24) (m := 10240) x5 (ValueIdx.ix2 (n0 := 24) (n1 := 10240) ⟨g - 24, by omega⟩ ⟨n, hn⟩) (g - 24) n rfl rfl]
    show ((((IntOp.shrsi .host ((at2 (n := 24) (m := 10240) x5 (g - 24) n).setWidth 32) 4#32).toInt : ℤ) : ℝ) : EReal) = _
    rw [word_hi]
    rfl

/-- The low nibbles of the packed rows, -/
theorem codes_lo (i : S3072x10240.Idx) : val_main_v12 (F := Ideal) x1 i
    = (((nib 0 (at2 (n := 3072) (m := 10240) x1 (i 0).val (i 1).val) : ℕ) : ℝ) : EReal) := by
  rw [val_main_v12_apply, val_main_v11_apply, val_main_v9_apply, val_main_v10_apply, val_main_c_1_apply,
    at2_of (n := 3072) (m := 10240) x1 i (i 0).val (i 1).val rfl rfl]
  show ((((IntOp.andi ((at2 (n := 3072) (m := 10240) x1 (i 0).val (i 1).val).setWidth 32) 15#32).toInt : ℤ) : ℝ) : EReal) = _
  rw [word_lo]
  rfl
/-- and the high nibbles. -/
theorem codes_hi (i : S3072x10240.Idx) : val_main_v35 (F := Ideal) x1 i
    = (((nib 1 (at2 (n := 3072) (m := 10240) x1 (i 0).val (i 1).val) : ℕ) : ℝ) : EReal) := by
  rw [val_main_v35_apply, val_main_v34_apply, val_main_v32_apply, val_main_v33_apply, val_main_c_6_apply,
    at2_of (n := 3072) (m := 10240) x1 i (i 0).val (i 1).val rfl rfl]
  show ((((IntOp.shrsi .host ((at2 (n := 3072) (m := 10240) x1 (i 0).val (i 1).val).setWidth 32) 4#32).toInt : ℤ) : ℝ) : EReal) = _
  rw [word_hi]
  rfl

/-- The weights of the even rows, -/
theorem weights_even (h7 : ∀ y, (x7 y).toNat < 48) (i : S3072x10240.Idx) :
    val_main_v29 (F := Ideal) x1 x3 x5 x7 i = wFull x7 x1 x3 x5 (2 * (i 0).val) (i 1).val := by
  have hn : (i 1).val < 10240 := (i 1).isLt
  have hg : (at1 (n := 6144) x7 (2 * (i 0).val)).toNat < 48 := h7 _
  rw [val_main_v29_apply, val_main_v28_apply, codes_lo]
  have e20 : val_main_v20 (F := Ideal) x3 x7 i = at2 (n := 48) (m := 10240) x3 (at1 (n := 6144) x7 (2 * (i 0).val)).toNat (i 1).val :=
    gather_rows_apply x3 _ i _ (index_even x7 h7 _) hg
  have e27 : val_main_v27 (F := Ideal) x5 x7 i = _ :=
    (gather_rows_apply (val_main_v8 (F := Ideal) x5) _ i _ ((congrFun (index_even' x7) _).trans (index_even x7 h7 _)) hg).trans
      (zeros_apply x5 _ _ hg hn)
  rw [e20, e27]
  unfold wFull
  rw [show 2 * (i 0).val % 2 = 0 from by omega, show 2 * (i 0).val / 2 = (i 0).val from by omega]
  rfl
/-- and of the odd rows. -/
theorem weights_odd (h7 : ∀ y, (x7 y).toNat < 48) (i : S3072x10240.Idx) :
    val_main_v52 (F := Ideal) x1 x3 x5 x7 i = wFull x7 x1 x3 x5 (2 * (i 0).val + 1) (i 1).val := by
  have hn : (i 1).val < 10240 := (i 1).isLt
  have hg : (at1 (n := 6144) x7 (2 * (i 0).val + 1)).toNat < 48 := h7 _
  rw [val_main_v52_apply, val_main_v51_apply, codes_hi]
  have e43 : val_main_v43 (F := Ideal) x3 x7 i = at2 (n := 48) (m := 10240) x3 (at1 (n := 6144) x7 (2 * (i 0).val + 1)).toNat (i 1).val :=
    gather_rows_apply x3 _ i _ (index_odd x7 h7 _) hg
  have e50 : val_main_v50 (F := Ideal) x5 x7 i = _ :=
    (gather_rows_apply (val_main_v8 (F := Ideal) x5) _ i _ ((congrFun (index_odd' x7) _).trans (index_odd x7 h7 _)) hg).trans
      (zeros_apply x5 _ _ hg hn)
  rw [e43, e50]
  unfold wFull
  rw [show (2 * (i 0).val + 1) % 2 = 1 from by omega, show (2 * (i 0).val + 1) / 2 = (i 0).val from by omega]
  rfl

end Weights

/-! ## The products -/

/-- A sum over an even number of terms is the sum of the even ones and the sum of the odd ones. -/
theorem sum_even_odd (f : Nat → EReal) (n : Nat) :
    (∑ k ∈ Finset.range (2 * n), f k) = (∑ k ∈ Finset.range n, f (2 * k)) + ∑ k ∈ Finset.range n, f (2 * k + 1) := by
  induction n with
  | zero => simp
  | succ n ih =>
    rw [show 2 * (n + 1) = 2 * n + 1 + 1 from by omega, Finset.sum_range_succ, Finset.sum_range_succ, ih,
      Finset.sum_range_succ, Finset.sum_range_succ]
    abel

section Products

variable (x0 : S16384x1x6144.Idx → EReal) (x1 x2 : S3072x10240.Idx → BitVec 8) (x3 x4 : S48x10240.Idx → EReal)
  (x5 x6 : S24x10240.Idx → BitVec 8) (x7 : S6144.Idx → BitVec 32)

/-- The even columns of the activations, -/
theorem rows_even (j : S16384x3072.Idx) : val_main_v30 (F := Ideal) x0 j
    = at2 (n := 16384) (m := 6144) (val_main_v0 (F := Ideal) x0) (j 0).val (2 * (j 1).val) := by
  unfold val_main_v30 Host.slice
  exact at2_of (n := 16384) (m := 6144) _ _ _ _ ((Nat.zero_add _).trans (Nat.one_mul _)) (Nat.zero_add _)
/-- and the odd ones. -/
theorem rows_odd (j : S16384x3072.Idx) : val_main_v53 (F := Ideal) x0 j
    = at2 (n := 16384) (m := 6144) (val_main_v0 (F := Ideal) x0) (j 0).val (2 * (j 1).val + 1) := by
  unfold val_main_v53 Host.slice
  exact at2_of (n := 16384) (m := 6144) _ _ _ _ ((Nat.zero_add _).trans (Nat.one_mul _)) (Nat.add_comm 1 _)

/-- The product of the activations and one dequantized matrix. -/
theorem product_at (h7 : ∀ y, (x7 y).toNat < 48) (i : S16384x10240.Idx) :
    val_main_v55 (F := Ideal) x0 x1 x3 x5 x7 i
      = ∑ k : Fin 6144, at2 (n := 16384) (m := 6144) (val_main_v0 (F := Ideal) x0) (i 0).val k.val * wFull x7 x1 x3 x5 k.val (i 1).val := by
  rw [val_main_v55_apply, val_main_v31_apply, val_main_v54_apply]
  have ee : ∀ k : Fin 3072, val_main_v30 (F := Ideal) x0 (lidx_main_v31 i k) * val_main_v29 (F := Ideal) x1 x3 x5 x7 (ridx_main_v31 i k)
      = at2 (n := 16384) (m := 6144) (val_main_v0 (F := Ideal) x0) (i 0).val (2 * k.val) * wFull x7 x1 x3 x5 (2 * k.val) (i 1).val :=
    fun k => congrArg₂ (· * ·) (rows_even x0 _) (weights_even x1 x3 x5 x7 h7 _)
  have eo : ∀ k : Fin 3072, val_main_v53 (F := Ideal) x0 (lidx_main_v54 i k) * val_main_v52 (F := Ideal) x1 x3 x5 x7 (ridx_main_v54 i k)
      = at2 (n := 16384) (m := 6144) (val_main_v0 (F := Ideal) x0) (i 0).val (2 * k.val + 1) * wFull x7 x1 x3 x5 (2 * k.val + 1) (i 1).val :=
    fun k => congrArg₂ (· * ·) (rows_odd x0 _) (weights_odd x1 x3 x5 x7 h7 _)
  refine (congrArg₂ (· + ·) (Finset.sum_congr rfl fun k _ => ee k) (Finset.sum_congr rfl fun k _ => eo k)).trans ?_
  rw [Fin.sum_univ_eq_sum_range (fun k => at2 (n := 16384) (m := 6144) (val_main_v0 (F := Ideal) x0) (i 0).val (2 * k) * wFull x7 x1 x3 x5 (2 * k) (i 1).val) 3072,
    Fin.sum_univ_eq_sum_range (fun k => at2 (n := 16384) (m := 6144) (val_main_v0 (F := Ideal) x0) (i 0).val (2 * k + 1) * wFull x7 x1 x3 x5 (2 * k + 1) (i 1).val) 3072,
    Fin.sum_univ_eq_sum_range (fun k => at2 (n := 16384) (m := 6144) (val_main_v0 (F := Ideal) x0) (i 0).val k * wFull x7 x1 x3 x5 k (i 1).val) 6144]
  exact (sum_even_odd (fun k => at2 (n := 16384) (m := 6144) (val_main_v0 (F := Ideal) x0) (i 0).val k * wFull x7 x1 x3 x5 k (i 1).val) 3072).symm

/-- The up projection's product is the gate's, of the up projection's arrays. -/
theorem product_up : val_main_v110 (F := Ideal) x0 x2 x4 x6 x7 = val_main_v55 (F := Ideal) x0 x2 x4 x6 x7 := rfl

/-- The reference's result, entry by entry. -/
theorem result_at (h7 : ∀ y, (x7 y).toNat < 48) (i : S16384x10240.Idx) :
    val_main_v119 (F := Ideal) x0 x1 x2 x3 x4 x5 x6 x7 i
      = gatedAt (val_main_v0 (F := Ideal) x0) (wFull x7 x1 x3 x5) (wFull x7 x2 x4 x6) (i 0).val (i 1).val := by
  rw [val_main_v119_apply, val_main_v118_apply, val_main_v117_apply, val_main_v116_apply, val_main_v115_apply, val_main_v114_apply,
    val_main_v113_apply, val_main_v112_apply, val_main_v111_apply, val_main_cst_apply, val_main_cst_23_apply, product_up,
    product_at x0 x1 x3 x5 x7 h7 i, product_at x0 x2 x4 x6 x7 h7 i]
  unfold gatedAt Ideal.logistic
  have one : (FloatOps.ofBits (F := Ideal) .f32 0x3F800000#32 : EReal) = 1 := Ideal.ofBits_one_f32
  rw [one]
  rfl

end Products

end Cert.ReferenceIdeal.Read

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_groups_exist
public import proofs.«01_k».proof.Proof.KernelFrame
public import proofs.«01_k».proof.Proof.KernelIdealFrame
public import proofs.«01_k».proof.Proof.Groups
public import proofs.«01_k».proof.Proof.Reference
public import proofs.«01_k».proof.Proof.KernelIdealResult
public import proofs.«01_k».proof.Proof.ReferenceValue
public import Idealize.ShloMosaic.Lib.Bf16Pair
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- `Kernel` runs, leaves its arguments as they were and its counters at zero. -/
theorem frame_Kernel : Cert.quiescent_Kernel := fun m ρ h => Cert.Kernel.Gen.frame m ρ trivial (groups_Kernel m h)

/-- `KernelIdeal` runs, leaves its arguments as they were and its counters at zero. -/
theorem frame_KernelIdeal : Cert.quiescent_KernelIdeal := fun m ρ h => Cert.KernelIdeal.Gen.frame m ρ trivial (groups_KernelIdeal m h)

/-- `ReferenceIdeal` runs, leaves its arguments as they were and its counters at zero. -/
theorem frame_ReferenceIdeal : Cert.quiescent_ReferenceIdeal := fun m ρ _ =>
  (θ_run _ _ _).mono (fun r h => ⟨fun c => (h c).2, sem_eq_zero_of_no_sems (by decide) r.2⟩) (Cert.ReferenceIdeal.Value.run m ρ)

/-- What replaces each rewritten use of a packed word is what the rule says of it. -/
theorem preserves : Cert.preserves_Kernel_KernelIdeal :=
  ⟨IdealRules.bf16_pair.bufferStatement _ _, IdealRules.bf16_pair.bufferStatement _ _, IdealRules.bf16_pair.halfStatement _,
    IdealRules.bf16_pair.statement _ _, IdealRules.bf16_pair.statement _ _, IdealRules.bf16_pair.statement _ _⟩

/-- `ReferenceIdeal` runs the same from the memories the value claim speaks of. -/
theorem frame_ReferenceIdeal_groups : Cert.quiescent_ReferenceIdeal_pre_groups_exist := fun m ρ _ => frame_ReferenceIdeal m ρ trivial

/-- The reference's result of its argument arrays is the gated product the kernel's result array holds: entry by entry, both
    are the sums over the 6144 rows of the activations times the dequantized weights, put through the gate. -/
theorem result_eq (m : (ℓ : Loc Cert.KernelIdeal.nD Cert.KernelIdeal.τ Cert.KernelIdeal.sig) → Buf (Elt Ideal) ℓ) (h : Cert.Pre_KernelIdeal m)
    (c : Dev Cert.KernelIdeal.nD) :
    Cert.ReferenceIdeal.Read.val_main_v119 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Gen.gated m c := by
  funext i
  refine (Cert.ReferenceIdeal.Read.result_at _ _ _ _ _ _ _ _ (fun y => groups_lt _ _ _ _ _ _ _ _ (h c) y) i).trans ?_
  unfold Cert.KernelIdeal.Gen.gated Cert.KernelIdeal.Gen.wGate Cert.KernelIdeal.Gen.wUp
  rw [Cert.KernelIdeal.Gen.groupsOf_eq m c, Cert.KernelIdeal.Gen.V_main_v0 m c, Cert.KernelIdeal.Gen.V_main_arg1 m c,
    Cert.KernelIdeal.Gen.V_main_arg2 m c, Cert.KernelIdeal.Gen.V_main_arg3 m c, Cert.KernelIdeal.Gen.V_main_arg4 m c,
    Cert.KernelIdeal.Gen.V_main_arg5 m c, Cert.KernelIdeal.Gen.V_main_arg6 m c]
  rfl

/-- From equal arguments, with every row group in the table, `KernelIdeal`'s result array and the reference's result are
    equal, and both leave their arguments as they were. -/
theorem algebraic : Cert.algebraic_KernelIdeal_ReferenceIdeal := fun m g m' g' h e =>
  ⟨fun c => Cert.KernelIdeal.Gen.gated m c, Cert.KernelIdeal.Gen.run m g trivial (groups_KernelIdeal m h),
    (θ_run _ _ _).mono (fun r hr c => ⟨(hr c).1.trans (by
      obtain ⟨e0, e1, e2, e3, e4, e5, e6, e7⟩ := e c
      rw [Cert.ReferenceIdeal.Read.val_main_v119_eq m' c, e0, e1, e2, e3, e4, e5, e6, e7]
      exact result_eq m h c), (hr c).2⟩) (Cert.ReferenceIdeal.Value.run m' g')⟩

/-- The claim. -/
theorem claim : Cert.Claim :=
  ⟨Cert.Kernel.Gen.facts, Cert.KernelIdeal.Gen.facts, Cert.ReferenceIdeal.Gen.facts, Cert.Pre_groups_exist.Gen.facts,
    frame_Kernel, frame_KernelIdeal, frame_ReferenceIdeal, frame_ReferenceIdeal_groups, preserves, algebraic⟩

end Cert.Proof

end
